-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S512x256 : Shape := ⟨2, ![512, 256]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S512x256 .f32) (main_arg1 : IVec S1024 32) : IVec S1024 1 :=
  let main_c : IVec S_ 32 := constantI S_ 32 1#32
  let main_v0 : IVec S1024 32 := broadcastInDim S1024 ![] bcast_S_S1024 main_c
  let main_v1 : IVec S1024 32 := andi main_arg1 main_v0
  let main_v2 : IVec S1024 1 := cmpi .eq main_v1 main_arg1
  let main_c_0 : IVec S_ 32 := constantI S_ 32 0#32
  let main_v3 : IVec S_ 32 := (fun x v => Host.reduce IntOp.addi x v reducesTo_S1024_S_d0 h_S_) main_arg1 main_c_0
  let main_c_1 : IVec S_ 32 := constantI S_ 32 512#32
  let main_v4 : IVec S_ 1 := cmpi .eq main_v3 main_c_1
  let main_v5 : IVec S1024 1 := broadcastInDim S1024 ![] bcast_S_S1024 main_v4
  let main_v6 : IVec S1024 1 := andi main_v2 main_v5
  main_v6
-- ==== Pre_balanced_ReferenceIdeal.lean ====
abbrev S1024x256 : Shape := ⟨2, ![1024, 256]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x256 .f32) (main_arg1 : IVec S1024 32) : IVec S1024 1 :=
  let main_c : IVec S_ 32 := constantI S_ 32 1#32
  let main_v0 : IVec S1024 32 := broadcastInDim S1024 ![] bcast_S_S1024 main_c
  let main_v1 : IVec S1024 32 := andi main_arg1 main_v0
  let main_v2 : IVec S1024 1 := cmpi .eq main_v1 main_arg1
  let main_c_0 : IVec S_ 32 := constantI S_ 32 0#32
  let main_v3 : IVec S_ 32 := (fun x v => Host.reduce IntOp.addi x v reducesTo_S1024_S_d0 h_S_) main_arg1 main_c_0
  let main_c_1 : IVec S_ 32 := constantI S_ 32 512#32
  let main_v4 : IVec S_ 1 := cmpi .eq main_v3 main_c_1
  let main_v5 : IVec S1024 1 := broadcastInDim S1024 ![] bcast_S_S1024 main_v4
  let main_v6 : IVec S1024 1 := andi main_v2 main_v5
  main_v6
-- ==== Kernel.lean ====
abbrev S512x256 : Shape := ⟨2, ![512, 256]⟩
abbrev S1024 : Shape := ⟨1, ![1024]⟩
abbrev S_ : Shape := ⟨0, ![]⟩
abbrev S512 : Shape := ⟨1, ![512]⟩
abbrev S1x512 : Shape := ⟨2, ![1, 512]⟩
abbrev S32x256 : Shape := ⟨2, ![32, 256]⟩
abbrev S17 : Shape := ⟨1, ![17]⟩
abbrev S1x1 : Shape := ⟨2, ![1, 1]⟩
abbrev S32x512 : Shape := ⟨2, ![32, 512]⟩
abbrev S1 : Shape := ⟨1, ![1]⟩

abbrev nBuf : Space → Nat
  | .hbm => 17
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S512, .i32⟩
  | .hbm, ⟨15, _⟩ => ⟨S1x512, .i32⟩
  | .hbm, ⟨16, _⟩ => ⟨S512x256, .f32⟩
  | .local _ .vmem, ⟨0, _⟩ => ⟨S1024, .i32⟩
  | .local _ .vmem, ⟨1, _⟩ => ⟨S512, .i32⟩
  | .local _ .vmem, ⟨2, _⟩ => ⟨S512, .i32⟩
  | .local _ .vmem, ⟨3, _⟩ => ⟨S512, .i32⟩
  | .local _ .vmem, ⟨4, _⟩ => ⟨S512, .i32⟩
  | .local _ .vmem, ⟨5, _⟩ => ⟨S1x512, .i32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S32x256, .f32⟩
  | _, _ => ⟨S512x256, .f32⟩

abbrev bufScoped : (cs : CoreSpace) → Fin (nBuf (.core cs)) → Bool
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev dmaSemScoped : Fin 42 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 10 42 bufScoped semScoped dmaSemScoped tileCredit tileCredit_eq_zero tileCredit_pos).withBarriers [(0, 9)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v7_span : Ref sig .tc := ⟨.vmem, 0, rfl⟩
abbrev main_v7_rcv0 : Ref sig .tc := ⟨.vmem, 1, rfl⟩
abbrev main_v7_rcv1 : Ref sig .tc := ⟨.vmem, 2, rfl⟩
abbrev main_v7_crcv0 : Ref sig .tc := ⟨.vmem, 3, rfl⟩
abbrev main_v7_crcv1 : Ref sig .tc := ⟨.vmem, 4, rfl⟩
abbrev cc0_stg0_0 : Ref sig .tc := ⟨.vmem, 5, rfl⟩
abbrev cc0_stg1_0 : Ref sig .tc := ⟨.vmem, 6, rfl⟩
abbrev cc0_stg2_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev rs0_lf0 : DmaSem sig := 0
abbrev rs0_lf1 : DmaSem sig := 1
abbrev rs0_lf2 : DmaSem sig := 2
abbrev rs0_lf3 : DmaSem sig := 3
abbrev rs0_st : DmaSem sig := 4
abbrev cc0_sem0_0 : DmaSem sig := 5
abbrev cc0_sem1_0 : DmaSem sig := 6
abbrev cc0_sem2_0 : DmaSem sig := 7
abbrev rs0_barrier : Sem sig := 0
abbrev rs0_sendCw : Sem sig := 1
abbrev rs0_sendCcw : Sem sig := 2
abbrev rs0_rf0 : Sem sig := 3
abbrev rs0_rf1 : Sem sig := 4
abbrev rs0_rf2 : Sem sig := 5
abbrev rs0_crf0 : Sem sig := 6
abbrev rs0_crf1 : Sem sig := 7
abbrev rs0_crf2 : Sem sig := 8
abbrev barrier0 : Sem sig := 9

abbrev nD : Nat := 16
abbrev τ : Topo := Topo.v7x

variable {F : FTy → Type} [FloatOps F]

abbrev rs0_mem : Fin 8 × Fin 2 → Dev nD := fun q => (![![0, 4], ![1, 5], ![2, 6], ![3, 7], ![8, 12], ![9, 13], ![10, 14], ![11, 15]] : Fin 8 → Fin 2 → Dev nD) q.1 q.2
abbrev rs0_pos : Dev nD → Fin 8 × Fin 2 := fun c => ((![0, 1, 2, 3, 0, 1, 2, 3, 4, 5, 6, 7, 4, 5, 6, 7] : Fin 16 → Fin 8) c, (![0, 0, 0, 0, 1, 1, 1, 1, 0, 0, 0, 0, 1, 1, 1, 1] : Fin 16 → Fin 2) c)
abbrev rs0_operandIx : Fin (sig.nBuf .hbm) := 13
abbrev rs0_resultIx : Fin (sig.nBuf .hbm) := 14
abbrev rs0_spanIx : Fin (sig.nBuf (.local .tc .vmem)) := 0
abbrev rs0_rcvIx : Fin 2 → Fin (sig.nBuf (.local .tc .vmem)) := fun | 0 => 1 | 1 => 2
abbrev rs0_crcvIx : Fin 2 → Fin (sig.nBuf (.local .tc .vmem)) := fun | 0 => 3 | 1 => 4
abbrev rs0_rf : Fin 3 → Sem sig := fun | 0 => rs0_rf0 | 1 => rs0_rf1 | 2 => rs0_rf2
abbrev rs0_crf : Fin 3 → Sem sig := fun | 0 => rs0_crf0 | 1 => rs0_crf1 | 2 => rs0_crf2
abbrev rs0_lf : Fin 4 → DmaSem sig := fun | 0 => rs0_lf0 | 1 => rs0_lf1 | 2 => rs0_lf2 | 3 => rs0_lf3

abbrev grid0 : Pipeline.Grid := .none

def k0_dev1 (d0 : Dev nD) : Nat :=
  let c0_i32_5 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v12 : BitVec 32 := Scalar.muli v2 c8_i32_4
  let v13 : BitVec 32 := Scalar.addi c0_i32_5 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_408 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_407 : BitVec 32 := 8#32
  let v747 : BitVec 32 := Scalar.muli v2 c8_i32_407
  let v748 : BitVec 32 := Scalar.addi c0_i32_408 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_409 : BitVec 32 := 4#32
  let v749 : BitVec 32 := Scalar.muli v9 c4_i32_409
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v751 : BitVec 32 := Scalar.muli v8 c1_i32_410
  let v752 : BitVec 32 := Scalar.addi v750 v751
  v752.toNat
def k0_dev3 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v747 : BitVec 32 := Scalar.muli v2 c8_i32_406
  let v748 : BitVec 32 := Scalar.addi c0_i32_407 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_408 : BitVec 32 := 4#32
  let v749 : BitVec 32 := Scalar.muli v9 c4_i32_408
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v751 : BitVec 32 := Scalar.muli v8 c1_i32_409
  let v752 : BitVec 32 := Scalar.addi v750 v751
  v752.toNat
def k0_dev4 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v747 : BitVec 32 := Scalar.muli v2 c8_i32_406
  let v748 : BitVec 32 := Scalar.addi c0_i32_407 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_408 : BitVec 32 := 4#32
  let v749 : BitVec 32 := Scalar.muli v9 c4_i32_408
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v751 : BitVec 32 := Scalar.muli v8 c1_i32_409
  let v752 : BitVec 32 := Scalar.addi v750 v751
  v752.toNat
def k0_dev5 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev6 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v747 : BitVec 32 := Scalar.muli v2 c8_i32_406
  let v748 : BitVec 32 := Scalar.addi c0_i32_407 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_408 : BitVec 32 := 4#32
  let v749 : BitVec 32 := Scalar.muli v9 c4_i32_408
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v751 : BitVec 32 := Scalar.muli v8 c1_i32_409
  let v752 : BitVec 32 := Scalar.addi v750 v751
  v752.toNat
def k0_dev7 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev8 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev9 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev10 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v747 : BitVec 32 := Scalar.muli v2 c8_i32_406
  let v748 : BitVec 32 := Scalar.addi c0_i32_407 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_408 : BitVec 32 := 4#32
  let v749 : BitVec 32 := Scalar.muli v9 c4_i32_408
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v751 : BitVec 32 := Scalar.muli v8 c1_i32_409
  let v752 : BitVec 32 := Scalar.addi v750 v751
  v752.toNat
def k0_dev11 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev12 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev13 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev14 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev15 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev16 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev17 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v747 : BitVec 32 := Scalar.muli v2 c8_i32_405
  let v748 : BitVec 32 := Scalar.addi c0_i32_406 v747
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v749 : BitVec 32 := Scalar.muli v9 c4_i32_407
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v751 : BitVec 32 := Scalar.muli v8 c1_i32_408
  let v752 : BitVec 32 := Scalar.addi v750 v751
  v752.toNat
def k0_dev18 (d0 : Dev nD) : Nat :=
  let c0_i32_402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_401 : BitVec 32 := 8#32
  let v733 : BitVec 32 := Scalar.muli v2 c8_i32_401
  let v734 : BitVec 32 := Scalar.addi c0_i32_402 v733
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_403 : BitVec 32 := 4#32
  let v735 : BitVec 32 := Scalar.muli v9 c4_i32_403
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v737 : BitVec 32 := Scalar.muli v8 c1_i32_404
  let v738 : BitVec 32 := Scalar.addi v736 v737
  v738.toNat
abbrev stage0_0 : Fin 1 → Memref sig .tc .vmem S1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x256 : Shape := ⟨2, ![1024, 256]⟩
abbrev S1024 : Shape := ⟨1, ![1024]⟩
abbrev S_ : Shape := ⟨0, ![]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Same.lean ====
/- The kernel and its reading over the extended reals are one text: the same body, region and program at any float values. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

theorem defs_eq : Cert.Kernel.defs (F := F) = Cert.KernelIdeal.defs (F := F) := congrArg (Pipeline.defs Cert.Kernel.pcfgs) defs₀_eq

end Cert.Proof

end
-- ==== Proof.Steps.lean ====
/- The kernel's body as a sequence of steps: the device's own words, the counts and positions read off the destinations,
   then one step per 32-row chunk for each of the three phases (send, keep, finish). Each printed part of the body is a
   run of these steps, by computation. -/
module

public import proofs.«01_k».proof.KernelIdeal
public import proofs.«01_k».proof.Proof.Gen.KernelIdeal

@[expose] public section

noncomputable section

namespace Cert.KernelIdeal.A2av

open Idealize.ShloMosaic Idealize.SL.Sem
open Cert.KernelIdeal Cert.KernelIdeal.Gen

variable {F : FTy → Type} [FloatOps F]

/-- A piece of the body. -/
abbrev Pg (F : FTy → Type) [FloatOps F] : Type 1 := Prog (TpuEff nD τ sig (Elt F) Λ₀ .tc) PUnit

/-! ## The operands -/

abbrev dM : Memref sig .tc .vmem S1x512 .i32 := Memref.whole cc0_stg0_0
abbrev xM : Memref sig .tc .vmem S512x256 .f32 := Memref.whole cc0_stg1_0
abbrev oM : Memref sig .tc .vmem S512x256 .f32 := Memref.whole cc0_stg2_0
abbrev sM : Memref sig .tc .vmem S512x256 .f32 := Memref.whole cc0_scratch0
abbrev rM : Memref sig .tc .vmem S512x256 .f32 := Memref.whole cc0_scratch1
abbrev uM : Memref sig .tc .vmem S32x256 .f32 := Memref.whole cc0_scratch2

theorem inbChunk (k : Fin 16) : ∀ a, (![32 * k.val, 0] : Fin 2 → Nat) a + S32x256.size a ≤ S512x256.size a := by
  intro a; have := k.isLt; fin_cases a <;> simp [S32x256, S512x256] <;> omega

theorem inbSem (j : Fin 17) : ∀ a, (![j.val] : Fin 1 → Nat) a + S1.size a ≤ S17.size a := by
  intro a; have := j.isLt; fin_cases a; simp [S1, S17]; omega

/-- The rectangle of 32 rows that is chunk `k` of a 512-row buffer. -/
abbrev chunk (k : Fin 16) : Rect S512x256 := Rect.unit (s := S512x256) ![32 * k.val, 0] S32x256.size (inbChunk k)

abbrev sChunk (k : Fin 16) : Memref sig .tc .vmem S32x256 .f32 := sM.slice (chunk k) (fun _ => rfl)
abbrev rChunk (k : Fin 16) : Memref sig .tc .vmem S32x256 .f32 := rM.slice (chunk k) (fun _ => rfl)

/-- The semaphores a chunk's transfer raises: at its sender, at its receiver. Number 16 is the empty exchange's. -/
abbrev sSem (j : Fin 17) : DmaSem sig := ((cc0_scratch3.slice (Rect.unit (s := S17) ![j.val] S1.size (inbSem j))).squeeze S_ squeezes_S1_S_).sem
abbrev rSem (j : Fin 17) : DmaSem sig := ((cc0_scratch4.slice (Rect.unit (s := S17) ![j.val] S1.size (inbSem j))).squeeze S_ squeezes_S1_S_).sem

/-! ## The bits deciding each step -/

/-- `w` as the printed conditionals test it. -/
abbrev on (w : BitVec 1) : Prop := Scalar.cmpi .ne (Scalar.extui w : BitVec 32) 0#32 = 1#1

/-- `32k` as a word. -/
abbrev w32 (k : Nat) : BitVec 32 := BitVec.ofNat 32 (32 * k)

/-- Chunk `k` is sent, received, kept: from the device's place `y` (`1` at the first), and the two counts. -/
abbrev sBit (y : BitVec 1) (ns nk : BitVec 32) (k : Fin 16) : BitVec 1 :=
  Scalar.select y (Scalar.cmpi .sgt ns (w32 k.val)) (Scalar.cmpi .slt nk (w32 (k.val + 1)))
abbrev rBit (y : BitVec 1) (ns nk : BitVec 32) (k : Fin 16) : BitVec 1 :=
  Scalar.select y (Scalar.cmpi .slt nk (w32 (k.val + 1))) (Scalar.cmpi .sgt ns (w32 k.val))
abbrev kBit (y : BitVec 1) (ns nk : BitVec 32) (k : Fin 16) : BitVec 1 :=
  Scalar.select y (Scalar.cmpi .sgt nk (w32 k.val)) (Scalar.cmpi .slt ns (w32 (k.val + 1)))
/-- Nothing is sent. -/
abbrev zBit (ns : BitVec 32) : BitVec 1 := Scalar.cmpi .eq ns 0#32

/-! ## The product of one chunk -/

/-- Rows `32k … 32k+31` of the selection of `x`'s rows by the positions `pos`. -/
def prod (pos : FVec F S1x512 .f32) (x : Vec F S512x256 .f32) (k : Fin 16) : FVec F S32x256 .f32 :=
  matmul dot_S32x512_S512x256_S32x256_1_0_0_1_n_n none
    (sitofp .f32 (extui 32 (cmpf .oeq (sitofp .f32 (addi (iota .tc S32x512 32 [0] iota_S32x512_d0_w32) (broadcast S32x512 (w32 k.val))) : FVec F S32x512 .f32)
      (broadcastTo S32x512 pos broadcasts_S1x512_S32x512)) natLt_1_32))
    (shapeCast S512x256 x shapeCasts_S512x256_S512x256) (constant S32x256 .f32 0x00000000#32)

/-! ## The steps -/

/-- A step taken when its bit is set. -/
abbrev ifOn (w : BitVec 1) (p : Pg F) : Pg F := if on w then p else pure ⟨⟩

/-- Chunk `k`: its rows written to the send buffer and copied to device `p`'s receive buffer. -/
def sendBody (p : Dev nD) (pos : FVec F S1x512 .f32) (k : Fin 16) : Pg F := do
  let x : Vec F S512x256 .f32 ← Prog.lift (.load xM (Rect.unit (s := S512x256) ![0, 0] S512x256.size inb_S512x256_S512x256_0_0).toLoadRect (View.loadsAt_vmem h_S512x256))
  let _ : Vec F S32x256 .f32 ← Prog.lift (.load sM (chunk k).toLoadRect (View.loadsAt_vmem h_S32x256))
  Prog.lift (.store sM (chunk k) (shapeCast S32x256 (prod pos x k) shapeCasts_S32x256_S32x256) Finset.univ (View.stores_vmem_bits_univ h_S32x256 rfl) (.inl rfl))
  Prog.lift (.enqueueDma (sChunk k) (.remote (Dev.tc p) (rChunk k) (.dma (sSem (k.castLE (by decide))))) (.dma (rSem (k.castLE (by decide)))) (View.wordExact_bits rfl) (View.wordExact_bits rfl) ⟨⟨rfl, Or.inl rfl⟩, trivial⟩)
  pure ⟨⟩

/-- The empty exchange's copy. -/
def dummyBody (p : Dev nD) : Pg F := do
  Prog.lift (.enqueueDma (sChunk 0) (.remote (Dev.tc p) uM (.dma (sSem 16))) (.dma (rSem 16)) (View.wordExact_bits rfl) ((Memref.isWhole_whole cc0_scratch2).wordExact) ⟨⟨rfl, Or.inl rfl⟩, trivial⟩)
  pure ⟨⟩

/-- Chunk `k`'s kept rows written to the output. -/
def keepBody (pos : FVec F S1x512 .f32) (k : Fin 16) : Pg F := do
  let x : Vec F S512x256 .f32 ← Prog.lift (.load xM (Rect.unit (s := S512x256) ![0, 0] S512x256.size inb_S512x256_S512x256_0_0).toLoadRect (View.loadsAt_vmem h_S512x256))
  let _ : Vec F S32x256 .f32 ← Prog.lift (.load oM (chunk k).toLoadRect (View.loadsAt_vmem h_S32x256))
  Prog.lift (.store oM (chunk k) (prod pos x k) Finset.univ (View.stores_vmem_bits_univ h_S32x256 rfl) (.inl rfl))
  pure ⟨⟩

def waitSendBody (k : Fin 16) : Pg F := do
  Prog.lift (.waitDma2 (sSem (k.castLE (by decide))) (rChunk k) (sChunk k) (View.wordExact_bits rfl) (View.wordExact_bits rfl))
  pure ⟨⟩

def waitRecvBody (k : Fin 16) : Pg F := do
  Prog.lift (.waitDma2 (rSem (k.castLE (by decide))) (sChunk k) (rChunk k) (View.wordExact_bits rfl) (View.wordExact_bits rfl))
  pure ⟨⟩

def addBody (k : Fin 16) : Pg F := do
  let a : Vec F S32x256 .f32 ← Prog.lift (.load oM (chunk k).toLoadRect (View.loadsAt_vmem h_S32x256))
  let b : Vec F S32x256 .f32 ← Prog.lift (.load rM (chunk k).toLoadRect (View.loadsAt_vmem h_S32x256))
  let _ : Vec F S32x256 .f32 ← Prog.lift (.load oM (chunk k).toLoadRect (View.loadsAt_vmem h_S32x256))
  Prog.lift (.store oM (chunk k) (addf (shapeCast S32x256 a shapeCasts_S32x256_S32x256) b) Finset.univ (View.stores_vmem_bits_univ h_S32x256 rfl) (.inl rfl))
  pure ⟨⟩

def copyBody (k : Fin 16) : Pg F := do
  let b : Vec F S32x256 .f32 ← Prog.lift (.load rM (chunk k).toLoadRect (View.loadsAt_vmem h_S32x256))
  let _ : Vec F S32x256 .f32 ← Prog.lift (.load oM (chunk k).toLoadRect (View.loadsAt_vmem h_S32x256))
  Prog.lift (.store oM (chunk k) b Finset.univ (View.stores_vmem_bits_univ h_S32x256 rfl) (.inl rfl))
  pure ⟨⟩

def dummyWaitBody : Pg F := do
  Prog.lift (.waitDma2 (sSem 16) uM (sChunk 0) ((Memref.isWhole_whole cc0_scratch2).wordExact) (View.wordExact_bits rfl))
  Prog.lift (.waitDma2 (rSem 16) (sChunk 0) uM (View.wordExact_bits rfl) ((Memref.isWhole_whole cc0_scratch2).wordExact))
  pure ⟨⟩

/-- A step and what follows it, as the body writes them. -/
abbrev ifK {β : Type} (w : BitVec 1) (p : Pg F) (k : Prog (TpuEff nD τ sig (Elt F) Λ₀ .tc) β) : Prog (TpuEff nD τ sig (Elt F) Λ₀ .tc) β :=
  if on w then p >>= fun _ => k else k

theorem ifK_eq {β : Type} (w : BitVec 1) (p : Pg F) (k : Prog (TpuEff nD τ sig (Elt F) Λ₀ .tc) β) :
    ifK w p k = ifOn w p >>= fun _ => k := by
  unfold ifK ifOn
  split <;> simp

/-- `n` steps in order. -/
def seqFin : (n : Nat) → (Fin n → Pg F) → Pg F
  | 0, _ => pure ⟨⟩
  | n + 1, p => p 0 >>= fun _ => seqFin n (fun i => p i.succ)

/-- `n` steps in order and what follows them, as the body writes them. -/
def foldK : (n : Nat) → (Fin n → Pg F → Pg F) → Pg F → Pg F
  | 0, _, k => k
  | n + 1, T, k => T 0 (foldK n (fun i => T i.succ) k)

theorem foldK_eq : ∀ (n : Nat) (T : Fin n → Pg F → Pg F) (p : Fin n → Pg F), (∀ i k, T i k = p i >>= fun _ => k) →
    ∀ k, foldK n T k = seqFin n p >>= fun _ => k
  | 0, _, _, _, k => by simp [foldK, seqFin]
  | n + 1, T, p, h, k => by
    rw [foldK, seqFin, h, foldK_eq n _ (fun i => p i.succ) (fun i k => h i.succ k) k]
    simp only [Prog.bind_assoc]

/-! ## The words and vectors the steps read -/

/-- The device's coordinate along the exchanging axis, as a word; whether it is the first. -/
abbrev yW (d : Dev nD) : BitVec 32 := Scalar.remsi (Scalar.divsi (Dev.word d) 4#32) 2#32
abbrev yBit (d : Dev nD) : BitVec 1 := Scalar.cmpi .eq (yW d) 0#32

abbrev cols : IVec S1x512 32 := iota .tc S1x512 32 [1] iota_S1x512_d1_w32

/-- The places with `s` places before them; each entry moved `s` places on. -/
def ge (s : BitVec 32) : IVec S1x512 1 := cmpi .sge cols (broadcast S1x512 s)
def rot (s : BitVec 32) (f : FVec F S1x512 .f32) : FVec F S1x512 .f32 := dynamicRotate 1 s none f rotates_S1x512_d1

/-- Zero. -/
def zeroF : F .f32 := Scalar.ofBits .f32 0x00000000#32

/-- The constant vector of a word's float. -/
abbrev cst (w : BitVec 32) : FVec F S1x512 .f32 := broadcast S1x512 (Scalar.ofBits .f32 w : F .f32)

/-- One doubling of the running sums: each entry plus the one `s` places before it. -/
def scan (s : BitVec 32) (f : FVec F S1x512 .f32) : FVec F S1x512 .f32 :=
  addf f (select (ge s) (rot s f) (cst 0x00000000#32))

/-- The doublings by 2, 4, …, 128. -/
def scans (f : FVec F S1x512 .f32) : FVec F S1x512 .f32 :=
  scan 128#32 (scan 64#32 (scan 32#32 (scan 16#32 (scan 8#32 (scan 4#32 (scan 2#32 f))))))

/-- The last of the sums, as a word. -/
def count (f : FVec F S1x512 .f32) : BitVec 32 :=
  Scalar.fptosi 32 (extractAt ![0, 0] (extractStridedSlice S1x1 ![0, 511] f slices_S1x512_o0_511_S1x1) inpos_S1x1_p0_0)

/-- Positions of the sent rows (`f` their sums, `g` marking them), and of the kept. -/
def sendPos (y : BitVec 1) (g f : FVec F S1x512 .f32) : FVec F S1x512 .f32 :=
  select (cmpf .oeq g (cst 0x3F800000#32))
    (addf (subf f (cst 0x3F800000#32))
      (broadcast S1x512 (Scalar.select y (Scalar.ofBits .f32 0x00000000#32 : F .f32) (Scalar.sitofp .f32 (Scalar.subi 512#32 (count f))))))
    (cst 0xBF800000#32)
def keepPos (y : BitVec 1) (g f : FVec F S1x512 .f32) : FVec F S1x512 .f32 :=
  select (cmpf .oeq g (cst 0x00000000#32))
    (addf (subf (sitofp .f32 cols) f)
      (broadcast S1x512 (Scalar.select y (Scalar.ofBits .f32 0x00000000#32 : F .f32) (Scalar.sitofp .f32 (count f)))))
    (cst 0xBF800000#32)

section Terms
variable (d : Dev nD) (v : Vec F S1x512 .i32)

/-- `1` at the rows that leave the device. -/
def sent : FVec F S1x512 .f32 :=
  sitofp .f32 (extui 32 (cmpi .ne (shapeCast S1x512 v shapeCasts_S1x512_S1x512 : IVec S1x512 32) (broadcast S1x512 (yW d))) natLt_1_32)

/-- The running sums of `sent`. -/
def sums : FVec F S1x512 .f32 := scan 256#32 (scans (scan 1#32 (sent d v)))

/-- The number of rows sent, and kept. -/
abbrev nS : BitVec 32 := count (sums (F := F) d v)
abbrev nK : BitVec 32 := Scalar.subi 512#32 (nS (F := F) d v)

/-- The position each sent row takes at the other device, and each kept row here; `-1` at the others. -/
abbrev posS : FVec F S1x512 .f32 := sendPos (yBit d) (sent d v) (sums d v)
abbrev posK : FVec F S1x512 .f32 := keepPos (yBit d) (sent d v) (sums d v)

/-! ## The body -/

abbrev sB (k : Fin 16) : BitVec 1 := sBit (yBit d) (nS d v) (nK d v) k
abbrev rB (k : Fin 16) : BitVec 1 := rBit (yBit d) (nS d v) (nK d v) k
abbrev kB (k : Fin 16) : BitVec 1 := kBit (yBit d) (nS d v) (nK d v) k
abbrev zB : BitVec 1 := zBit (nS d v)

abbrev finT (k : Fin 16) (r : Pg F) : Pg F :=
  ifK (sB d v k) (waitSendBody k) (ifK (rB d v k) (waitRecvBody k) (ifK (Scalar.andi (rB d v k) (kB d v k)) (addBody k)
    (ifK (Scalar.andi (rB d v k) (Scalar.xori (kB d v k) 1#1)) (copyBody k) r)))

/-- A chunk finished: its transfers waited for, and what arrived put in place. -/
def finStep (k : Fin 16) : Pg F := do
  ifOn (sB d v k) (waitSendBody k)
  ifOn (rB d v k) (waitRecvBody k)
  ifOn (Scalar.andi (rB d v k) (kB d v k)) (addBody k)
  ifOn (Scalar.andi (rB d v k) (Scalar.xori (kB d v k) 1#1)) (copyBody k)

/-- Everything after the destinations are read. -/
def tail (p : Dev nD) : Pg F := do
  seqFin 16 fun k => ifOn (sB d v k) (sendBody p (posS d v) k)
  ifOn (zB d v) (dummyBody p)
  seqFin 16 fun k => ifOn (kB d v k) (keepBody (posK d v) k)
  seqFin 16 fun k => finStep d v k
  ifOn (zB d v) dummyWaitBody
  pure ⟨⟩

end Terms

/-- The device across the exchanging axis. -/
def pr (d : Dev nD) : Dev nD := ⟨(8 * (d.val / 8) + (d.val % 4) + 4) - 4 * ((d.val / 4) % 2), by have := d.isLt; simp only [nD] at *; omega⟩

theorem pr_pr : ∀ d, pr (pr d) = d := by decide
theorem pr_ne : ∀ d, pr d ≠ d := by decide

/-- The device each remote copy names, by its number. -/
abbrev devs (d0 : Dev nD) : Fin 17 → Dev nD :=
  ![⟨k0_dev2 d0, Facts₀.k0_dev2_lt d0⟩, ⟨k0_dev3 d0, Facts₀.k0_dev3_lt d0⟩, ⟨k0_dev4 d0, Facts₀.k0_dev4_lt d0⟩,
    ⟨k0_dev5 d0, Facts₀.k0_dev5_lt d0⟩, ⟨k0_dev6 d0, Facts₀.k0_dev6_lt d0⟩, ⟨k0_dev7 d0, Facts₀.k0_dev7_lt d0⟩,
    ⟨k0_dev8 d0, Facts₀.k0_dev8_lt d0⟩, ⟨k0_dev9 d0, Facts₀.k0_dev9_lt d0⟩, ⟨k0_dev10 d0, Facts₀.k0_dev10_lt d0⟩,
    ⟨k0_dev11 d0, Facts₀.k0_dev11_lt d0⟩, ⟨k0_dev12 d0, Facts₀.k0_dev12_lt d0⟩, ⟨k0_dev13 d0, Facts₀.k0_dev13_lt d0⟩,
    ⟨k0_dev14 d0, Facts₀.k0_dev14_lt d0⟩, ⟨k0_dev15 d0, Facts₀.k0_dev15_lt d0⟩, ⟨k0_dev16 d0, Facts₀.k0_dev16_lt d0⟩,
    ⟨k0_dev17 d0, Facts₀.k0_dev17_lt d0⟩, ⟨k0_dev18 d0, Facts₀.k0_dev18_lt d0⟩]

theorem devs_eq (d0 : Dev nD) (j : Fin 17) : devs d0 j = pr d0 := by
  fin_cases j <;> apply Fin.ext
  · exact k0_dev2_eq d0
  · exact k0_dev3_eq d0
  · exact k0_dev4_eq d0
  · exact k0_dev5_eq d0
  · exact k0_dev6_eq d0
  · exact k0_dev7_eq d0
  · exact k0_dev8_eq d0
  · exact k0_dev9_eq d0
  · exact k0_dev10_eq d0
  · exact k0_dev11_eq d0
  · exact k0_dev12_eq d0
  · exact k0_dev13_eq d0
  · exact k0_dev14_eq d0
  · exact k0_dev15_eq d0
  · exact k0_dev16_eq d0
  · exact k0_dev17_eq d0
  · exact k0_dev18_eq d0

/-! ## The printed parts are runs of the steps -/

section Parts
variable {β : Type} (d0 : Dev nD) (v2 v8 v9 : BitVec 32) (y : BitVec 1) (ns nk : BitVec 32) (p : Dev nD) (pos : FVec F S1x512 .f32)
  (k : Fin 16) (r : Prog (TpuEff nD τ sig (Elt F) Λ₀ .tc) β)

abbrev tS := ifK (sBit y ns nk k) (sendBody p pos k) r
abbrev tK := ifK (kBit y ns nk k) (keepBody pos k) r
abbrev tW := ifK (sBit y ns nk k) (waitSendBody k) (ifK (rBit y ns nk k) (waitRecvBody k) r)
abbrev tA := ifK (Scalar.andi (rBit y ns nk k) (kBit y ns nk k)) (addBody k) r
abbrev tC := ifK (Scalar.andi (rBit y ns nk k) (Scalar.xori (kBit y ns nk k) 1#1)) (copyBody k) r

theorem part1_eq : k0_part1 (F := F) dM (Memref.isWhole_whole _) xM (Memref.isWhole_whole _) oM (Memref.isWhole_whole _) sM (Memref.isWhole_whole _) rM (Memref.isWhole_whole _)
      uM (Memref.isWhole_whole _) cc0_scratch3 cc0_scratch4 = (do
      let d ← Prog.lift .deviceId
      semSignalWord (⟨k0_dev1 d, Facts₀.k0_dev1_lt d⟩ : Dev nD) barrier0 1#32
      semWaitWord barrier0 1#32
      let v : Vec F S1x512 .i32 ← Prog.lift (.load dM (Rect.unit (s := S1x512) ![0, 0] S1x512.size inb_S1x512_S1x512_0_0).toLoadRect (View.loadsAt_vmem h_S1x512))
      pure ⟨d, Scalar.remsi (Scalar.divsi (Dev.word d) 8#32) 2#32, Scalar.remsi (Scalar.divsi (Dev.word d) 1#32) 4#32, Scalar.subi 1#32 (yW d), yBit d,
        sent d v, cols, scan 1#32 (sent d v), ge 2#32, rot 2#32 (scan 1#32 (sent d v)),
        zeroF⟩) := rfl

theorem part2_eq (f : FVec F S1x512 .f32) : k0_part2 (F := F) dM (Memref.isWhole_whole _) xM (Memref.isWhole_whole _) oM (Memref.isWhole_whole _) sM (Memref.isWhole_whole _) rM (Memref.isWhole_whole _)
      uM (Memref.isWhole_whole _) cc0_scratch3 cc0_scratch4
      cols f (ge 2#32) (rot 2#32 f) zeroF
    = pure ⟨scans f, ge 256#32⟩ := rfl

theorem part3_eq (g f : FVec F S1x512 .f32) : k0_part3 (F := F) dM (Memref.isWhole_whole _) xM (Memref.isWhole_whole _) oM (Memref.isWhole_whole _) sM (Memref.isWhole_whole _) rM (Memref.isWhole_whole _)
      uM (Memref.isWhole_whole _) cc0_scratch3 cc0_scratch4
      d0 v2 v8 v9 y g cols f (ge 256#32)
    = (tS y (count (scan 256#32 f)) (Scalar.subi 512#32 (count (scan 256#32 f))) (devs d0 0) (sendPos y g (scan 256#32 f)) 0 <|
      tS y (count (scan 256#32 f)) (Scalar.subi 512#32 (count (scan 256#32 f))) (devs d0 1) (sendPos y g (scan 256#32 f)) 1 <|
      pure ⟨count (scan 256#32 f), Scalar.subi 512#32 (count (scan 256#32 f)), sendPos y g (scan 256#32 f), keepPos y g (scan 256#32 f),
        Scalar.cmpi .sgt (count (scan 256#32 f)) 64#32, Scalar.cmpi .slt (Scalar.subi 512#32 (count (scan 256#32 f))) 96#32⟩) := rfl

theorem part4_eq : k0_part4 (F := F) dM (Memref.isWhole_whole _) xM (Memref.isWhole_whole _) oM (Memref.isWhole_whole _) sM (Memref.isWhole_whole _) rM (Memref.isWhole_whole _)
      uM (Memref.isWhole_whole _) cc0_scratch3 cc0_scratch4 d0 v2 v8 v9 y ns nk pos (Scalar.cmpi .sgt ns 64#32) (Scalar.cmpi .slt nk 96#32)
    = (tS y ns nk (devs d0 2) pos 2 <| tS y ns nk (devs d0 3) pos 3 <| tS y ns nk (devs d0 4) pos 4 <| tS y ns nk (devs d0 5) pos 5 <| tS y ns nk (devs d0 6) pos 6 <| tS y ns nk (devs d0 7) pos 7 <| tS y ns nk (devs d0 8) pos 8 <|
      pure 288#32) := rfl

theorem part5_eq : k0_part5 (F := F) dM (Memref.isWhole_whole _) xM (Memref.isWhole_whole _) oM (Memref.isWhole_whole _) sM (Memref.isWhole_whole _) rM (Memref.isWhole_whole _)
      uM (Memref.isWhole_whole _) cc0_scratch3 cc0_scratch4 d0 v2 v8 v9 y ns nk pos 288#32
    = (tS y ns nk (devs d0 9) pos 9 <| tS y ns nk (devs d0 10) pos 10 <| tS y ns nk (devs d0 11) pos 11 <| tS y ns nk (devs d0 12) pos 12 <| tS y ns nk (devs d0 13) pos 13 <| tS y ns nk (devs d0 14) pos 14 <|
      pure ⟨Scalar.extui (sBit y ns nk 15), 0#32⟩) := rfl

theorem part6_eq (pos' : FVec F S1x512 .f32) : k0_part6 (F := F) dM (Memref.isWhole_whole _) xM (Memref.isWhole_whole _) oM (Memref.isWhole_whole _) sM (Memref.isWhole_whole _) rM (Memref.isWhole_whole _)
      uM (Memref.isWhole_whole _) cc0_scratch3 cc0_scratch4 d0 v2 v8 v9 y ns nk pos' pos (Scalar.extui (sBit y ns nk 15)) 0#32
    = (tS y ns nk (devs d0 15) pos' 15 <| ifK (zBit ns) (dummyBody (devs d0 16)) <| tK y ns nk pos 0 <| tK y ns nk pos 1 <| tK y ns nk pos 2 <| tK y ns nk pos 3 <| tK y ns nk pos 4 <|
      pure ⟨Scalar.extui (kBit y ns nk 5), 0#32⟩) := rfl

theorem part7_eq : k0_part7 (F := F) dM (Memref.isWhole_whole _) xM (Memref.isWhole_whole _) oM (Memref.isWhole_whole _) sM (Memref.isWhole_whole _) rM (Memref.isWhole_whole _)
      uM (Memref.isWhole_whole _) cc0_scratch3 cc0_scratch4 y ns nk pos (Scalar.extui (kBit y ns nk 5)) 0#32
    = (tK y ns nk pos 5 <| tK y ns nk pos 6 <| tK y ns nk pos 7 <| tK y ns nk pos 8 <| tK y ns nk pos 9 <| tK y ns nk pos 10 <| tK y ns nk pos 11 <|
      pure ⟨Scalar.cmpi .sgt nk 384#32, Scalar.cmpi .slt ns 416#32⟩) := rfl

theorem part8_eq : k0_part8 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk pos (Scalar.cmpi .sgt nk 384#32) (Scalar.cmpi .slt ns 416#32)
    = (tK y ns nk pos 12 <| tK y ns nk pos 13 <| tK y ns nk pos 14 <| tK y ns nk pos 15 <| tW y ns nk 0 <|
      pure ⟨rBit y ns nk 0, kBit y ns nk 0⟩) := rfl

theorem part9_eq : k0_part9 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 0) (kBit y ns nk 0)
    = (tA y ns nk 0 <| tC y ns nk 0 <| tW y ns nk 1 <| tA y ns nk 1 <|
      pure (rBit y ns nk 1)) := rfl

theorem part10_eq : k0_part10 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 1)
    = (tC y ns nk 1 <| tW y ns nk 2 <| tA y ns nk 2 <|
      pure ⟨Scalar.extui (Scalar.andi (rBit y ns nk 2) (Scalar.xori (kBit y ns nk 2) 1#1)), 0#32⟩) := rfl

theorem part11_eq : k0_part11 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (Scalar.extui (Scalar.andi (rBit y ns nk 2) (Scalar.xori (kBit y ns nk 2) 1#1))) 0#32
    = (tC y ns nk 2 <| tW y ns nk 3 <| tA y ns nk 3 <| tC y ns nk 3 <|
      pure (Scalar.cmpi .ne (Scalar.extui (sBit y ns nk 4) : BitVec 32) 0#32)) := rfl

theorem part12_eq : k0_part12 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (Scalar.cmpi .ne (Scalar.extui (sBit y ns nk 4) : BitVec 32) 0#32)
    = (tW y ns nk 4 <| tA y ns nk 4 <| tC y ns nk 4 <| tW y ns nk 5 <|
      pure ⟨⟩) := rfl

theorem part13_eq : k0_part13 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk
    = (tA y ns nk 5 <| tC y ns nk 5 <| tW y ns nk 6 <|
      pure ⟨rBit y ns nk 6, kBit y ns nk 6⟩) := rfl

theorem part14_eq : k0_part14 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 6) (kBit y ns nk 6)
    = (tA y ns nk 6 <| tC y ns nk 6 <| tW y ns nk 7 <| tA y ns nk 7 <|
      pure (rBit y ns nk 7)) := rfl

theorem part15_eq : k0_part15 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 7)
    = (tC y ns nk 7 <| tW y ns nk 8 <| tA y ns nk 8 <|
      pure ⟨Scalar.extui (Scalar.andi (rBit y ns nk 8) (Scalar.xori (kBit y ns nk 8) 1#1)), 0#32⟩) := rfl

theorem part16_eq : k0_part16 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (Scalar.extui (Scalar.andi (rBit y ns nk 8) (Scalar.xori (kBit y ns nk 8) 1#1))) 0#32
    = (tC y ns nk 8 <| tW y ns nk 9 <| tA y ns nk 9 <| tC y ns nk 9 <|
      pure (Scalar.cmpi .ne (Scalar.extui (sBit y ns nk 10) : BitVec 32) 0#32)) := rfl

theorem part17_eq : k0_part17 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (Scalar.cmpi .ne (Scalar.extui (sBit y ns nk 10) : BitVec 32) 0#32)
    = (tW y ns nk 10 <| tA y ns nk 10 <| tC y ns nk 10 <| tW y ns nk 11 <|
      pure ⟨⟩) := rfl

theorem part18_eq : k0_part18 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk
    = (tA y ns nk 11 <| tC y ns nk 11 <| tW y ns nk 12 <|
      pure ⟨rBit y ns nk 12, kBit y ns nk 12⟩) := rfl

theorem part19_eq : k0_part19 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 12) (kBit y ns nk 12)
    = (tA y ns nk 12 <| tC y ns nk 12 <| tW y ns nk 13 <| tA y ns nk 13 <|
      pure (rBit y ns nk 13)) := rfl

theorem part20_eq : k0_part20 (F := F) dM (Memref.isWhole_whole _) xM (Memref.isWhole_whole _) oM (Memref.isWhole_whole _) sM (Memref.isWhole_whole _) rM (Memref.isWhole_whole _)
      uM (Memref.isWhole_whole _) cc0_scratch3 cc0_scratch4 v2 v8 v9 y ns nk (rBit y ns nk 13)
    = (tC y ns nk 13 <| tW y ns nk 14 <| tA y ns nk 14 <|
      pure ⟨Scalar.extui (Scalar.andi (rBit y ns nk 14) (Scalar.xori (kBit y ns nk 14) 1#1)), 0#32⟩) := rfl

end Parts

end Cert.KernelIdeal.A2av

end
-- ==== Proof.Words.lean ====
/- The words deciding the steps: which bits are set, across the two devices that exchange. -/
module

public import proofs.«01_k».proof.Proof.Steps

@[expose] public section

namespace Cert.KernelIdeal.A2av

open Idealize.ShloMosaic

theorem on_iff : ∀ a : BitVec 1, on a ↔ a = 1#1 := by decide
theorem on_and : ∀ a b : BitVec 1, on (Scalar.andi a b) ↔ on a ∧ on b := by decide
theorem on_and_not : ∀ a b : BitVec 1, on (Scalar.andi a (Scalar.xori b 1#1)) ↔ on a ∧ ¬ on b := by decide
theorem yBit_pr : ∀ c, yBit (pr c) = ~~~ yBit c := by decide

theorem select_one {α : Type} (a b : α) : Scalar.select 1#1 a b = a := rfl
theorem select_zero {α : Type} (a b : α) : Scalar.select 0#1 a b = b := rfl

/-- What one device sends the other receives. -/
theorem sBit_not (y : BitVec 1) (ns nk : BitVec 32) (k : Fin 16) : sBit (~~~ y) ns nk k = rBit y ns nk k := by
  unfold sBit rBit
  rcases (by decide : ∀ y : BitVec 1, y = 1#1 ∨ y = 0#1) y with rfl | rfl
  · rw [show ~~~ (1#1) = 0#1 from rfl, select_zero, select_one]
  · rw [show ~~~ (0#1) = 1#1 from rfl, select_zero, select_one]

theorem w32_toInt {n : Nat} (h : n ≤ 16) : (w32 n).toInt = 32 * n :=
  (by decide : ∀ n : Fin 17, (w32 n.val).toInt = 32 * n.val) ⟨n, by omega⟩

theorem slt_iff (x y : BitVec 32) : Scalar.cmpi .slt x y = 1#1 ↔ x.toInt < y.toInt := by
  show BitVec.ofBool (decide (x.toInt < y.toInt)) = 1#1 ↔ _
  by_cases h : x.toInt < y.toInt <;> simp [h]
theorem sgt_iff (x y : BitVec 32) : Scalar.cmpi .sgt x y = 1#1 ↔ y.toInt < x.toInt := by
  show BitVec.ofBool (decide (y.toInt < x.toInt)) = 1#1 ↔ _
  by_cases h : y.toInt < x.toInt <;> simp [h]

/-- A chunk that is not received is kept. -/
theorem kept_of_not_received (y : BitVec 1) (ns nk : BitVec 32) (k : Fin 16) (h : ¬ on (rBit y ns nk k)) : on (kBit y ns nk k) := by
  rw [on_iff] at *
  unfold rBit at h
  unfold kBit
  have hk := k.isLt
  have h0 := w32_toInt (n := k.val) (by omega)
  have h1 := w32_toInt (n := k.val + 1) (by omega)
  rcases (by decide : ∀ y : BitVec 1, y = 1#1 ∨ y = 0#1) y with rfl | rfl
  · rw [select_one, slt_iff] at h
    rw [select_one, sgt_iff]
    omega
  · rw [select_zero, sgt_iff] at h
    rw [select_zero, slt_iff]
    omega

/-- With nothing to send no chunk is sent. -/
theorem none_sent (y : BitVec 1) (k : Fin 16) : ¬ on (sBit y 0#32 (Scalar.subi 512#32 0#32) k) := by
  rw [on_iff]
  unfold sBit
  have hk := k.isLt
  have h0 := w32_toInt (n := k.val) (by omega)
  have h1 := w32_toInt (n := k.val + 1) (by omega)
  have e0 : (0#32).toInt = 0 := by decide
  have e1 : (Scalar.subi 512#32 0#32).toInt = 512 := by decide
  rcases (by decide : ∀ y : BitVec 1, y = 1#1 ∨ y = 0#1) y with rfl | rfl
  · rw [select_one, sgt_iff]; omega
  · rw [select_zero, slt_iff]; omega

theorem zero_of_zBit (ns : BitVec 32) (h : on (zBit ns)) : ns = 0#32 := by
  rw [on_iff] at h
  by_contra hn
  rw [show zBit ns = BitVec.ofBool (ns == 0#32) from rfl, beq_eq_false_iff_ne.mpr hn] at h
  exact absurd h (by decide)

end Cert.KernelIdeal.A2av
-- ==== Proof.Count.lean ====
/- Counting in floats: the running sums of the marks of the rows that leave a device are exact, so the number of rows
   sent is the number of marked rows. Stated over any float values in which small naturals add exactly. -/
module

public import proofs.«01_k».proof.Proof.Words
public import Idealize.ShloMosaic.Lib.NatWordsOrder
public import Idealize.ShloMosaic.Lib.ValueIdx
public import Idealize.ShloMosaic.PureOps.Ideal.Laws
public import Idealize.ShloMosaic.Lib.Pipeline.Value

@[expose] public section

noncomputable section

namespace Cert.KernelIdeal.A2av

open Idealize.ShloMosaic Idealize.SL.Sem Idealize.ShloMosaic.ValueIdx
open Cert.KernelIdeal Cert.KernelIdeal.Gen

variable {F : FTy → Type} [FloatOps F]

/-- The float of a natural. -/
def fnat (n : ℕ) : F .f32 := FloatOps.sitofp .f32 (BitVec.ofNat 32 n)

/-- Float values in which the naturals up to 512 are exact: they add, and convert back, as naturals. -/
structure Exact (F : FTy → Type) [FloatOps F] : Prop where
  zero : (Scalar.ofBits .f32 0x00000000#32 : F .f32) = fnat 0
  add : ∀ a b : ℕ, a + b ≤ 512 → FloatOps.addf (fnat a : F .f32) (fnat b) = fnat (a + b)
  word : ∀ n : ℕ, n ≤ 512 → Scalar.fptosi 32 (fnat n : F .f32) = BitVec.ofNat 32 n

theorem exact_bits : Exact Bits where
  zero := by
    rw [show (fnat 0 : Bits .f32) = Bits.sitofp32 (BitVec.ofNat 32 0) from rfl, Bits.sitofp32_ofNat (by decide), Bits.f32OfNat_zero]
    rfl
  add a b h := by
    rw [show (fnat a : Bits .f32) = Bits.sitofp32 (BitVec.ofNat 32 a) from rfl, show (fnat b : Bits .f32) = Bits.sitofp32 (BitVec.ofNat 32 b) from rfl,
      show (fnat (a + b) : Bits .f32) = Bits.sitofp32 (BitVec.ofNat 32 (a + b)) from rfl,
      Bits.sitofp32_ofNat (by omega), Bits.sitofp32_ofNat (by omega), Bits.sitofp32_ofNat (by omega)]
    exact Bits.addf32_nat a b (by omega)
  word n h := by
    rw [show (fnat n : Bits .f32) = Bits.sitofp32 (BitVec.ofNat 32 n) from rfl, Bits.sitofp32_ofNat (by omega)]
    exact Bits.fptosi32_nat n (by omega)

/-- Over the reals the float of a natural is the natural. -/
theorem fnat_ideal (n : ℕ) (h : n ≤ 2048) : (fnat n : Ideal .f32) = ((n : ℝ) : EReal) := by
  have e : (BitVec.ofNat 32 n).toInt = (n : ℤ) := by
    rw [BitVec.toInt_eq_toNat_cond, BitVec.toNat_ofNat, Nat.mod_eq_of_lt (by omega), if_pos (by omega)]
  show (((BitVec.ofNat 32 n).toInt : ℝ) : EReal) = _
  rw [e]; norm_num

theorem exact_ideal : Exact Ideal where
  zero := by
    rw [fnat_ideal 0 (by omega)]
    simp
  add a b h := by
    rw [fnat_ideal a (by omega), fnat_ideal b (by omega), fnat_ideal (a + b) (by omega)]
    show ((a : ℝ) : EReal) + ((b : ℝ) : EReal) = _
    rw [← EReal.coe_add]; norm_num
  word n h := by
    rw [fnat_ideal n (by omega)]
    show Ideal.fptosi 32 ((n : ℝ) : EReal) = _
    rw [Ideal.fptosi, Ideal.toIntClamped_coe, if_pos (Nat.cast_nonneg n), Int.floor_natCast,
      show ((2 ^ (32 - 1) : ℕ) : ℤ) = 2147483648 by norm_num,
      min_eq_right (show (n : ℤ) ≤ 2147483648 - 1 by omega), max_eq_right (show -2147483648 ≤ (n : ℤ) by omega), BitVec.ofInt_natCast]

/-- Every entry of `f` is the float of what `p` says of its place. -/
def At (f : FVec F S1x512 .f32) (p : ℕ → ℕ) : Prop := ∀ i : S1x512.Idx, f i = fnat (p (i 1).val)

/-- One doubling, on naturals. -/
theorem scan_at (E : Exact F) (s : ℕ) (hs : 0 < s) (hs' : s < 512) (f : FVec F S1x512 .f32) (p q : ℕ → ℕ) (hf : At f p)
    (hq : ∀ j, j < 512 → q j = p j + if s ≤ j then p (j - s) else 0) (hb : ∀ j, j < 512 → q j ≤ 512) :
    At (scan (BitVec.ofNat 32 s) f) q := by
  intro i
  have hi : (i 1).val < 512 := (i 1).isLt
  have hge : ge (BitVec.ofNat 32 s) i = BitVec.ofBool (decide (s ≤ (i 1).val)) := by
    show BitVec.ofBool ((BitVec.ofNat 32 s).sle (BitVec.ofNat 32 (0 * 512 + (i 1).val))) = _
    congr 1
    rw [BitVec.sle]
    congr 1
    have e1 : (BitVec.ofNat 32 s).toInt = (s : ℤ) := by
      rw [BitVec.toInt_eq_toNat_cond, BitVec.toNat_ofNat, Nat.mod_eq_of_lt (by omega), if_pos (by omega)]
    have e2 : (BitVec.ofNat 32 (0 * 512 + (i 1).val)).toInt = ((i 1).val : ℤ) := by
      rw [BitVec.toInt_eq_toNat_cond, BitVec.toNat_ofNat, Nat.mod_eq_of_lt (by omega), if_pos (by omega)]; omega
    rw [e1, e2]; exact propext Int.ofNat_le
  have hrot : s ≤ (i 1).val → rot (BitVec.ofNat 32 s) f i = fnat (p ((i 1).val - s)) := by
    intro h
    unfold rot dynamicRotate
    rw [hf]
    congr 2
    show (((i 1).val + 512 - ((BitVec.ofNat 32 s).toNat + 0) % 512) % 512) = _
    rw [BitVec.toNat_ofNat]; omega
  show FloatOps.addf (f i) (Scalar.select (ge (BitVec.ofNat 32 s) i) (rot (BitVec.ofNat 32 s) f i) (Scalar.ofBits .f32 0x00000000#32)) = _
  rw [hge, hf i, hq _ hi]
  have hb' := hb _ hi
  rw [hq _ hi] at hb'
  by_cases h : s ≤ (i 1).val
  · rw [if_pos h] at hb' ⊢
    rw [decide_eq_true h, show BitVec.ofBool true = 1#1 from rfl, select_one, hrot h, E.add _ _ hb']
  · rw [if_neg h] at hb' ⊢
    rw [decide_eq_false h, show BitVec.ofBool false = 0#1 from rfl, select_zero, E.zero, E.add _ _ hb']

section Sums
variable (d : Dev nD) (v : Vec F S1x512 .i32)

/-- Whether the device's row `j` leaves it. -/
def leaves (j : ℕ) : Prop := ∃ h : j < 512, (v (ix2 0 ⟨j, h⟩) : BitVec 32) ≠ yW d

instance : DecidablePred (leaves d v) := fun j => by unfold leaves; infer_instance

/-- The number of the first `n` rows that leave. -/
abbrev before (n : ℕ) : ℕ := Nat.count (leaves d v) n

theorem before_le (n : ℕ) : before d v n ≤ n := Nat.count_le _

theorem sent_at : At (sent d v) (fun j => if leaves d v j then 1 else 0) := by
  intro i
  have hl : leaves d v (i 1).val ↔ (v i : BitVec 32) ≠ yW d := by
    have e : ix2 (0 : Fin 1) (i 1 : Fin 512) = i :=
      (congrArg (fun a : Fin 1 => ix2 a (i 1 : Fin 512)) (Subsingleton.elim _ _)).trans (eq_ix2 i).symm
    have e' : ∀ h, (v (ix2 (0 : Fin 1) (⟨(i 1).val, h⟩ : Fin 512)) : BitVec 32) = v i := fun _ => congrArg v e
    exact ⟨fun ⟨h, h'⟩ => e' h ▸ h', fun h' => ⟨(i 1).isLt, fun h => h' ((e' _).symm.trans h)⟩⟩
  have hs : sent d v i = FloatOps.sitofp .f32 ((BitVec.ofBool (decide ((v i : BitVec 32) ≠ yW d))).setWidth 32) := by
    unfold sent
    rw [shapeCast_self]
    show FloatOps.sitofp .f32 ((BitVec.ofBool ((v i : BitVec 32) != yW d)).setWidth 32) = _
    congr 3
    by_cases h : (v i : BitVec 32) = yW d <;> simp [h]
  rw [hs]
  by_cases h : (v i : BitVec 32) ≠ yW d
  · rw [decide_eq_true h]
    simp only [hl, if_pos h]
    rfl
  · rw [decide_eq_false h]
    simp only [hl, if_neg h]
    rfl

/-- The rows that leave among those up to `j`, `s` of them at most. -/
abbrev window (s j : ℕ) : ℕ := before d v (j + 1) - before d v (j + 1 - s)

theorem window_le (s j : ℕ) (h : j < 512) : window d v s j ≤ 512 :=
  (Nat.sub_le _ _).trans ((before_le d v _).trans (by omega))

/-- One doubling widens the window twofold. -/
theorem scan_window (E : Exact F) (s : ℕ) (hs : 0 < s) (hs' : s < 512) (f : FVec F S1x512 .f32) (hf : At f (window d v s)) :
    At (scan (BitVec.ofNat 32 s) f) (window d v (2 * s)) := by
  refine scan_at E s hs hs' f _ _ hf (fun j hj => ?_) (window_le d v _)
  by_cases h : s ≤ j
  · rw [if_pos h]
    have m1 : before d v (j + 1 - s) ≤ before d v (j + 1) := Nat.count_monotone _ (by omega)
    have m2 : before d v (j + 1 - 2 * s) ≤ before d v (j + 1 - s) := Nat.count_monotone _ (by omega)
    have e : j - s + 1 = j + 1 - s := by omega
    have e' : j + 1 - s - s = j + 1 - 2 * s := by omega
    show before d v (j + 1) - before d v (j + 1 - 2 * s) = before d v (j + 1) - before d v (j + 1 - s) + (before d v (j - s + 1) - before d v (j - s + 1 - s))
    rw [e, e']
    omega
  · rw [if_neg h]
    show before d v (j + 1) - before d v (j + 1 - 2 * s) = before d v (j + 1) - before d v (j + 1 - s) + 0
    rw [show j + 1 - 2 * s = 0 by omega, show j + 1 - s = 0 by omega]
    rfl

/-- The running sums: entry `j` is the number of rows up to `j` that leave. -/
theorem sums_at (E : Exact F) : At (sums d v) (fun j => before d v (j + 1)) := by
  have h0 : At (sent d v) (window d v 1) := by
    intro i
    rw [sent_at d v i]
    congr 1
    show _ = before d v ((i 1).val + 1) - before d v ((i 1).val + 1 - 1)
    rw [Nat.add_sub_cancel, before, before, Nat.count_succ, Nat.add_sub_cancel_left]
  have h := scan_window d v E 256 (by decide) (by decide) _ <| scan_window d v E 128 (by decide) (by decide) _ <|
    scan_window d v E 64 (by decide) (by decide) _ <| scan_window d v E 32 (by decide) (by decide) _ <|
    scan_window d v E 16 (by decide) (by decide) _ <| scan_window d v E 8 (by decide) (by decide) _ <|
    scan_window d v E 4 (by decide) (by decide) _ <| scan_window d v E 2 (by decide) (by decide) _ <|
    scan_window d v E 1 (by decide) (by decide) _ h0
  intro i
  have hi : (i 1).val < 512 := (i 1).isLt
  refine (h i).trans ?_
  congr 1
  show before d v _ - before d v ((i 1).val + 1 - 2 * 256) = _
  rw [show (i 1).val + 1 - 2 * 256 = 0 by omega, before, before, Nat.count_zero, Nat.sub_zero]

/-- The last entry, as the program extracts it. -/
theorem last_apply (f : FVec F S1x512 .f32) :
    extractAt ![0, 0] (extractStridedSlice S1x1 ![0, 511] f slices_S1x512_o0_511_S1x1) inpos_S1x1_p0_0 = f (ix2 0 511) := by
  refine congrArg f (funext fun a => ?_)
  match a with
  | ⟨0, _⟩ => rfl
  | ⟨1, _⟩ => rfl

/-- The number of rows sent. -/
theorem nS_eq (E : Exact F) : nS (F := F) d v = BitVec.ofNat 32 (before d v 512) := by
  have h := sums_at d v E (ix2 0 511)
  unfold nS count
  rw [last_apply, h]
  exact E.word _ (before_le d v 512)

end Sums

end Cert.KernelIdeal.A2av
end
-- ==== Proof.Schedule.lean ====
/- The exchange as a schedule: one duty on every semaphore that is raised, and what each raise hands over. A device signals
   the device across the axis that its landing buffers are free, handing over those that the other will copy into; each
   copy hands the source chunk back to its sender and the landing chunk, at the sent rows, to its receiver. -/
module

public import proofs.«01_k».proof.Proof.Steps
public import proofs.«01_k».proof.Proof.Gen.KernelIdeal.Launch
public import Idealize.ShloMosaic.Lib.Rounds
public import Idealize.ShloMosaic.Lib.ReduceScatter.Once
public import Idealize.ShloMosaic.Lib.Memref

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's rounds, the exchange's, and those of the host's reduce-scatter. -/
abbrev UU : Type := UR sig nD τ × (UR sig nD τ × ReduceScatter.Once.UC nD τ sig)

local notation "𝕄" => MT nD τ sig ℕ (Elt F) ℕ UU ℕ

abbrev EP : Emb (UR sig nD τ) (MT nD τ sig ℕ (Elt F) ℕ UU ℕ) := embL
abbrev ER : Emb (UR sig nD τ) (MT nD τ sig ℕ (Elt F) ℕ UU ℕ) := (Emb.inl : Emb _ (UR sig nD τ × ReduceScatter.Once.UC nD τ sig)).trans embR
abbrev EC : Emb (ReduceScatter.Once.UC nD τ sig) (MT nD τ sig ℕ (Elt F) ℕ UU ℕ) := (Emb.inr : Emb _ (UR sig nD τ × ReduceScatter.Once.UC nD τ sig)).trans embR

/-- The index at which the exchange owes and waits: above the four of the reduce-scatter. -/
abbrev kx : ℕ := 4

/-! ## Buffers and semaphores of the 17 transfers -/

/-- What transfer `j` reads at its sender, and writes at its receiver. -/
def sBuf (j : Fin 17) : Memref sig .tc .vmem S32x256 .f32 := if h : j.val < 16 then sChunk ⟨j.val, h⟩ else sChunk 0
def rBuf (j : Fin 17) : Memref sig .tc .vmem S32x256 .f32 := if h : j.val < 16 then rChunk ⟨j.val, h⟩ else uM

theorem sBuf_castLE (k : Fin 16) : sBuf (k.castLE (by decide)) = sChunk k := dif_pos k.isLt
theorem rBuf_castLE (k : Fin 16) : rBuf (k.castLE (by decide)) = rChunk k := dif_pos k.isLt
theorem sBuf_last : sBuf 16 = sChunk 0 := dif_neg (by decide)
theorem rBuf_last : rBuf 16 = uM := dif_neg (by decide)

theorem sSem_val : ∀ j, (sSem j).val = 8 + j.val := by decide
theorem rSem_val : ∀ j, (rSem j).val = 25 + j.val := by decide

abbrev barCell (c : Dev nD) : GSem nD τ sig := ((c : Thread nD τ), .reg barrier0)
abbrev sendCell (c : Dev nD) (j : Fin 17) : GSem nD τ sig := ((c : Thread nD τ), .dma (sSem j))
abbrev recvCell (c : Dev nD) (j : Fin 17) : GSem nD τ sig := ((c : Thread nD τ), .dma (rSem j))

/-- What one transfer counts on its semaphores. -/
abbrev N : ℕ := (uM : Memref sig .tc .vmem S32x256 .f32).view.dmaCredit
theorem N_pos : 0 < N := View.dmaCredit_pos _ (by decide)
theorem credit_s (j : Fin 17) : (sBuf j).view.dmaCredit = N := by unfold sBuf; split <;> rfl
theorem credit_r (j : Fin 17) : (rBuf j).view.dmaCredit = N := by unfold rBuf; split <;> rfl

/-- A buffer of one transfer, held at contents not chosen. -/
def free (c : Dev nD) (b : Memref sig .tc .vmem S32x256 .f32) : sProp 𝕄 := iprop(∃ X, owns (c : Thread nD τ) b fullShare X)

theorem free_intro (c : Dev nD) (b : Memref sig .tc .vmem S32x256 .f32) (X) :
    (owns (c : Thread nD τ) b fullShare X : sProp 𝕄) ⊢ free c b := by unfold free; iintro H; iexists X; iexact H

instance free_storable (c : Dev nD) (b : Memref sig .tc .vmem S32x256 .f32) : BI.Storable (upEmb : UEmb _ 𝕄) (free c b) := by
  unfold free; infer_instance

/-- A proposition held when `b` is set. -/
abbrev held? (b : Bool) (P : sProp 𝕄) : sProp 𝕄 := if b = true then P else iprop(emp)

/-! ## The schedule, for which transfers are made (`sn`) and what they carry (`pay`) -/

section Sched
variable (sn : Dev nD → Fin 17 → Bool) (pay : Dev nD → Fin 16 → Vec F S32x256 .f32)

/-- With a device's barrier: the landing buffers it may copy into, whose semaphores wait for it. -/
def barPay (c : Dev nD) : sProp 𝕄 :=
  bigSep Finset.univ fun j : Fin 17 => held? (sn c j) iprop(free (pr c) (rBuf j) ∗ reached ER (recvCell (pr c) j) 0)
/-- With a sent chunk: its buffer back. -/
def sendPay (c : Dev nD) (j : Fin 17) : sProp 𝕄 := free c (sBuf j)
/-- With an arrived chunk: the buffer, at the rows the other device sent. -/
def recvPay (c : Dev nD) (j : Fin 17) : sProp 𝕄 :=
  iprop(∃ X, ⌜∀ h : j.val < 16, X = pay (pr c) ⟨j.val, h⟩⌝ ∗ owns (c : Thread nD τ) (rBuf j) fullShare X)

/-- Which semaphores are raised: the barriers; a sender's and its receiver's, of the transfers that are made. -/
def raised (c : Dev nD) : SemLoc sig → Bool
  | .reg s => decide (s = barrier0)
  | .dma s => if s.val < 8 then false
      else if h : s.val < 25 then sn c ⟨s.val - 8, by omega⟩
      else if h : s.val - 25 < 17 then sn (pr c) ⟨s.val - 25, h⟩ else false

/-- What a raise hands over. -/
def handed (c : Dev nD) : SemLoc sig → sProp 𝕄
  | .reg _ => barPay sn c
  | .dma s => if h : s.val < 25 then (if 8 ≤ s.val then sendPay c ⟨s.val - 8, by omega⟩ else iprop(emp))
      else if h : s.val - 25 < 17 then recvPay pay c ⟨s.val - 25, h⟩ else iprop(emp)

def Rd : Rounds.Schedule (GSem nD τ sig) Unit 𝕄 where
  duties g r := if r = 0 ∧ g.1.2 = .tc ∧ raised sn g.1.1 g.2 = true then {()} else ∅
  unitless _ := False
  amount g _ _ := match g.2 with | .reg _ => 1 | .dma _ => N
  payload g _ _ := handed sn pay g.1.1 g.2
  amount_pos g _ _ _ := by
    rcases g with ⟨_, _ | _⟩
    · exact Nat.one_pos
    · exact N_pos

instance recvPay_storable (c : Dev nD) (j : Fin 17) : BI.Storable (upEmb : UEmb _ 𝕄) (recvPay pay c j) := by
  unfold recvPay; infer_instance

instance held?_storable (b : Bool) (P : sProp 𝕄) [BI.Storable (upEmb : UEmb _ 𝕄) P] : BI.Storable (upEmb : UEmb _ 𝕄) (held? b P) := by
  unfold held?; split <;> infer_instance

instance Rd_storable (g : GSem nD τ sig) (r : ℕ) (d : Unit) :
    BI.Storable (upEmb : UEmb _ 𝕄) ((Rd (F := F) sn pay).payload g r d) := by
  show BI.Storable upEmb (handed sn pay g.1.1 g.2)
  unfold handed barPay sendPay
  (repeat' split) <;> infer_instance

variable (c : Dev nD) (j : Fin 17)

theorem raised_send : raised sn c (.dma (sSem j)) = sn c j := by
  have h := sSem_val j
  have hj := j.isLt
  show (if (sSem j).val < 8 then false else if h : (sSem j).val < 25 then sn c ⟨(sSem j).val - 8, _⟩ else _) = _
  rw [if_neg (by omega), dif_pos (by omega)]
  congr 1; apply Fin.ext; show (sSem j).val - 8 = j.val; omega
theorem raised_recv : raised sn c (.dma (rSem j)) = sn (pr c) j := by
  have h := rSem_val j
  have hj := j.isLt
  show (if (rSem j).val < 8 then false else if h : (rSem j).val < 25 then _ else if h : (rSem j).val - 25 < 17 then sn (pr c) ⟨(rSem j).val - 25, h⟩ else _) = _
  rw [if_neg (by omega), dif_neg (by omega), dif_pos (by omega)]
  congr 1; apply Fin.ext; show (rSem j).val - 25 = j.val; omega

theorem duties_bar : (Rd (F := F) sn pay).duties (barCell c) 0 = {()} := by dsimp only [Rd]; exact if_pos ⟨rfl, rfl, rfl⟩
theorem duties_send (h : sn c j = true) : (Rd (F := F) sn pay).duties (sendCell c j) 0 = {()} := by
  dsimp only [Rd]; exact if_pos ⟨rfl, rfl, (raised_send sn c j).trans h⟩
theorem duties_recv (h : sn (pr c) j = true) : (Rd (F := F) sn pay).duties (recvCell c j) 0 = {()} := by
  dsimp only [Rd]; exact if_pos ⟨rfl, rfl, (raised_recv sn c j).trans h⟩
theorem duties_send_none (h : ¬ sn c j = true) : ∀ r, 0 ≤ r → (Rd (F := F) sn pay).duties (sendCell c j) r = ∅ := fun r _ => by
  dsimp only [Rd]; exact if_neg fun h' => h ((raised_send sn c j).symm.trans h'.2.2)
theorem duties_recv_none (h : ¬ sn (pr c) j = true) : ∀ r, 0 ≤ r → (Rd (F := F) sn pay).duties (recvCell c j) r = ∅ := fun r _ => by
  dsimp only [Rd]; exact if_neg fun h' => h ((raised_recv sn c j).symm.trans h'.2.2)
theorem duties_later (g : GSem nD τ sig) : ∀ r, 1 ≤ r → (Rd (F := F) sn pay).duties g r = ∅ := fun r hr => by
  dsimp only [Rd]; exact if_neg fun h => by omega

theorem amount_bar (u : Unit) : (Rd (F := F) sn pay).amount (barCell c) 0 u = 1 := rfl
theorem amount_send (u : Unit) : (Rd (F := F) sn pay).amount (sendCell c j) 0 u = N := rfl
theorem amount_recv (u : Unit) : (Rd (F := F) sn pay).amount (recvCell c j) 0 u = N := rfl

theorem expect_bar : (Rd (F := F) sn pay).expect (barCell c) 0 = 1 := by
  unfold Schedule.expect Schedule.amountOf; rw [duties_bar, Finset.sum_singleton, amount_bar]
theorem expect_send (h : sn c j = true) : (Rd (F := F) sn pay).expect (sendCell c j) 0 = N := by
  unfold Schedule.expect Schedule.amountOf; rw [duties_send sn pay c j h, Finset.sum_singleton, amount_send]
theorem expect_recv (h : sn (pr c) j = true) : (Rd (F := F) sn pay).expect (recvCell c j) 0 = N := by
  unfold Schedule.expect Schedule.amountOf; rw [duties_recv sn pay c j h, Finset.sum_singleton, amount_recv]

theorem payload_bar (u : Unit) : (Rd (F := F) sn pay).payload (barCell c) 0 u = barPay sn c := rfl
theorem payload_send (u : Unit) : (Rd (F := F) sn pay).payload (sendCell c j) 0 u = sendPay c j := by
  have h := sSem_val j
  have hj := j.isLt
  show (if h : (sSem j).val < 25 then (if 8 ≤ (sSem j).val then sendPay c ⟨(sSem j).val - 8, _⟩ else iprop(emp)) else _) = _
  rw [dif_pos (by omega), if_pos (by omega)]
  congr 1; apply Fin.ext; show (sSem j).val - 8 = j.val; omega
theorem payload_recv (u : Unit) : (Rd (F := F) sn pay).payload (recvCell c j) 0 u = recvPay pay c j := by
  have h := rSem_val j
  have hj := j.isLt
  show (if h : (rSem j).val < 25 then _ else if h : (rSem j).val - 25 < 17 then recvPay pay c ⟨(rSem j).val - 25, h⟩ else iprop(emp)) = _
  rw [dif_neg (by omega), dif_pos (by omega)]
  congr 1; apply Fin.ext; show (rSem j).val - 25 = j.val; omega

theorem rest_bar : bigSep ((Rd (F := F) sn pay).duties (barCell c) 0 \ ∅) (fun u => (Rd (F := F) sn pay).payload (barCell c) 0 u) = barPay sn c := by
  rw [Finset.sdiff_empty, duties_bar, bigSep_singleton, payload_bar]
theorem rest_send (h : sn c j = true) :
    bigSep ((Rd (F := F) sn pay).duties (sendCell c j) 0 \ ∅) (fun u => (Rd (F := F) sn pay).payload (sendCell c j) 0 u) = sendPay c j := by
  rw [Finset.sdiff_empty, duties_send sn pay c j h, bigSep_singleton, payload_send]
theorem rest_recv (h : sn (pr c) j = true) :
    bigSep ((Rd (F := F) sn pay).duties (recvCell c j) 0 \ ∅) (fun u => (Rd (F := F) sn pay).payload (recvCell c j) 0 u) = recvPay pay c j := by
  rw [Finset.sdiff_empty, duties_recv sn pay c j h, bigSep_singleton, payload_recv]

/-! ## What a device owes -/

/-- The arrivals still owed across the axis before transfer `k`. -/
def due (k : ℕ) : CellTallies nD τ sig ℕ :=
  ∑ i : Fin 17, if k ≤ i.val ∧ sn c i = true then tallyAt (recvCell (pr c) i) kx N else 0

/-- At launch: those, and the barrier's unit. -/
def O₀ : CellTallies nD τ sig ℕ := due sn c 0 + tallyAt (barCell (pr c)) kx 1

theorem due_step : due sn c j.val = due sn c (j.val + 1) + (if sn c j = true then tallyAt (recvCell (pr c) j) kx N else 0) := by
  unfold due
  rw [← Finset.add_sum_erase Finset.univ _ (Finset.mem_univ j), ← Finset.add_sum_erase Finset.univ (fun i : Fin 17 => if j.val + 1 ≤ i.val ∧ _ then _ else _) (Finset.mem_univ j)]
  rw [if_neg (fun h => by omega : ¬ (j.val + 1 ≤ j.val ∧ sn c j = true)), zero_add, add_comm]
  congr 1
  · refine Finset.sum_congr rfl fun i hi => ?_
    have : i.val ≠ j.val := fun h => (Finset.mem_erase.mp hi).1 (Fin.ext h)
    exact if_congr (by constructor <;> rintro ⟨h₁, h₂⟩ <;> exact ⟨by omega, h₂⟩) rfl rfl
  · exact if_congr (by simp) rfl rfl

theorem due_on (h : sn c j = true) : due sn c j.val = due sn c (j.val + 1) + tallyAt (recvCell (pr c) j) kx N := by
  rw [due_step sn c j, if_pos h]
theorem due_off (h : ¬ sn c j = true) : due sn c j.val = due sn c (j.val + 1) := by
  rw [due_step sn c j, if_neg h, add_zero]
theorem due_end : due sn c 17 = 0 := Finset.sum_eq_zero fun i _ => if_neg fun h => by have := i.isLt; omega

theorem due_pos {k : ℕ} {g : GSem nD τ sig} {u : ℕ} (h : 0 < due sn c k g u) : (∃ i, g = recvCell (pr c) i) ∧ u = kx := by
  unfold due at h
  rw [Finset.sum_apply, Finsupp.finset_sum_apply] at h
  obtain ⟨i, -, hi⟩ := Finset.exists_ne_zero_of_sum_ne_zero h.ne'
  split at hi
  · rw [tallyAt_apply] at hi
    split at hi
    · next hg => exact ⟨⟨i, hg.1⟩, hg.2⟩
    · exact absurd rfl hi
  · exact absurd rfl hi

theorem O₀_pos {g : GSem nD τ sig} {u : ℕ} (h : 0 < O₀ sn c g u) : ((∃ i, g = recvCell (pr c) i) ∨ g = barCell (pr c)) ∧ u = kx := by
  unfold O₀ at h
  rw [Pi.add_apply, Finsupp.add_apply] at h
  rcases Nat.add_pos_iff_pos_or_pos.mp h with h | h
  · exact ⟨.inl (due_pos sn c h).1, (due_pos sn c h).2⟩
  · rw [tallyAt_apply] at h
    split at h
    · next hg => exact ⟨.inr hg.1, hg.2⟩
    · exact absurd h (Nat.lt_irrefl 0)

def L (g : GSem nD τ sig) : Finset ℕ := if g.1.2 = .tc then Finset.range 5 else ∅
/-- The reduce-scatter's indices are their own levels; of the exchange's, the barriers' is 4 and the arrivals' 5. -/
def lv (g : GSem nD τ sig) (i : ℕ) : ℕ := if i = kx then (match g.2 with | .reg _ => 4 | .dma _ => 5) else i

theorem L_of_ne (g : GSem nD τ sig) (h : g.1.2 ≠ .tc) : L g = ∅ := if_neg h
theorem mem_L (g : GSem nD τ sig) (hg : g.1.2 = .tc) (i : ℕ) (hi : i < 5) : i ∈ L g := by
  unfold L; rw [if_pos hg]; exact Finset.mem_range.mpr hi
theorem lv_bar : lv (barCell c) kx = 4 := rfl
theorem lv_recv : lv (recvCell c j) kx = 5 := rfl
theorem lv_low (g : GSem nD τ sig) (i : ℕ) (hi : i < 4) : lv g i = i := if_neg hi.ne
theorem lv_ge (g : GSem nD τ sig) (i : ℕ) : i ≤ lv g i := by
  unfold lv
  split
  · next h => rw [h]; split <;> decide
  · exact le_rfl

theorem mayWait_bar : (levAts L lv : sProp 𝕄) ⊢ MayWait (c : Thread nD τ) (.reg barrier0) kx (due sn c 0) :=
  MayOwe.of_cut (L := L) (lev := lv) 4 (fun p hp => by rw [Finset.mem_singleton.mp hp]; exact mem_L _ rfl _ (by decide))
    (fun g u hg => by obtain ⟨⟨i, rfl⟩, rfl⟩ := due_pos sn c hg; exact mem_L _ rfl _ (by decide))
    (fun p hp => by rw [Finset.mem_singleton.mp hp]; exact (lv_bar c).le)
    (fun g u hg => by obtain ⟨⟨i, rfl⟩, rfl⟩ := due_pos sn c hg; rw [lv_recv]; decide)

end Sched

end Cert.KernelIdeal.A2av

end
-- ==== Proof.Steps2.lean ====
/- The rules for one step of the body: a chunk loaded, stored, copied across, waited for; and for a run of steps. -/
module

public import proofs.«01_k».proof.Proof.Schedule
public import Idealize.ShloMosaic.Lib.StableHlo
public import Idealize.ShloMosaic.Lib.Tactic
public import Idealize.ShloMosaic.Lib.Pipeline.Value

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-! ## Runs of steps -/

/-- What device `c` needs for `p` to end at `Q`. -/
def run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_eq (c : Dev nD) {α : Type} (p : Prog (TpuEff nD τ sig (Elt F) Λ₀ .tc) α) (Q : α → sProp 𝕄) :
    run c p Q = wp frame (wpE (defs₀ (F := F)) 𝒱₀ (c : Thread nD τ) none) Set.univ p Q := rfl

theorem run_mono {c : Dev nD} {α : Type} {p : Prog (TpuEff nD τ sig (Elt F) Λ₀ .tc) α} {Q Q' : α → sProp 𝕄} (h : ∀ a, Q a ⊢ Q' a) :
    run c p Q ⊢ run c p Q' := wp_mono _ _ _ h

theorem run_seq {c : Dev nD} {p q : Pg F} {P R : sProp 𝕄} {Q : PUnit → sProp 𝕄}
    (h₁ : P ⊢ run c p fun _ => R) (h₂ : R ⊢ run c q Q) : P ⊢ run c (p >>= fun _ => q) Q := by
  unfold run
  rw [wp_bind]
  exact h₁.trans (wp_mono _ _ _ fun _ => h₂)

theorem run_frame {c : Dev nD} {p : Pg F} {P Q : sProp 𝕄} (R : sProp 𝕄) (h : P ⊢ run c p fun _ => Q) :
    iprop(P ∗ R) ⊢ run c p fun _ => iprop(Q ∗ R) :=
  (sep_mono_left h).trans (wp_frame_r _ _ _)

theorem run_ret {c : Dev nD} {P Q : sProp 𝕄} (h : P ⊢ Q) : P ⊢ run c (pure ⟨⟩ : Pg F) fun _ => Q :=
  h.trans (le_wp_ret _ _ _ (⟨⟩ : PUnit) (fun _ => Q))

theorem bigSep_first {n : Nat} (Φ : Fin (n + 1) → sProp 𝕄) :
    bigSep Finset.univ Φ = iprop(Φ 0 ∗ bigSep Finset.univ (fun i : Fin n => Φ i.succ)) := by
  rw [Fin.univ_succ, Finset.cons_eq_insert, bigSep_insert (by simp [Fin.succ_ne_zero]), bigSep_map]
  rfl

theorem bigSep_at {I : Type} [DecidableEq I] {s : Finset I} {i : I} (h : i ∈ s) (Φ : I → sProp 𝕄) : (bigSep s Φ : sProp 𝕄) ⊢ Φ i :=
  bigSep_elim h

theorem bigSep_last (Φ : Fin 17 → sProp 𝕄) :
    bigSep Finset.univ Φ = iprop(Φ 16 ∗ bigSep Finset.univ (fun k : Fin 16 => Φ (k.castLE (by decide)))) := by
  rw [show (Finset.univ : Finset (Fin 17)) = insert 16 (Finset.univ.map ⟨fun k : Fin 16 => k.castLE (by decide), fun a b h => by
    have := congrArg Fin.val h; exact Fin.ext this⟩) from by decide, bigSep_insert (by decide), bigSep_map]
  rfl

/-- `n` steps, each on its own part `A k` and a state handed on. -/
theorem run_steps (c : Dev nD) : ∀ (n : Nat) (p : Fin n → Pg F) (A B : Fin n → sProp 𝕄) (S : Nat → sProp 𝕄),
    (∀ k : Fin n, iprop(A k ∗ S k.val) ⊢ run c (p k) fun _ => iprop(B k ∗ S (k.val + 1))) →
    iprop(bigSep Finset.univ A ∗ S 0) ⊢ run c (seqFin n p) fun _ => iprop(bigSep Finset.univ B ∗ S n)
  | 0, _, A, B, S, _ => by
    refine run_ret ?_
    rw [show (Finset.univ : Finset (Fin 0)) = ∅ from rfl, bigSep_empty, bigSep_empty]
  | n + 1, p, A, B, S, h => by
    rw [bigSep_first A]
    have h0 := h 0
    rw [Fin.val_zero, Nat.zero_add] at h0
    refine run_seq (R := iprop((B 0 ∗ S 1) ∗ bigSep Finset.univ fun i : Fin n => A i.succ)) ?_ ?_
    · refine BIBase.Entails.trans ?_ (run_frame _ h0)
      iintro ⟨⟨Ha, Hr⟩, Hs⟩
      isplitr [Hr]
      · isplitl [Ha]; · iexact Ha
        iexact Hs
      iexact Hr
    · have ih := run_frame (B 0) (run_steps c n (fun i => p i.succ) (fun i => A i.succ) (fun i => B i.succ) (fun i => S (i + 1))
        (fun k => h k.succ))
      refine BIBase.Entails.trans ?_ (ih.trans (wp_mono _ _ _ fun _ => ?_))
      · iintro ⟨⟨Hb, Hs⟩, Hr⟩
        isplitr [Hb]
        · isplitl [Hr]; · iexact Hr
          iexact Hs
        iexact Hb
      · rw [bigSep_first B]
        iintro ⟨⟨Hr, Hs⟩, Hb⟩
        isplitr [Hs]
        · isplitl [Hb]; · iexact Hb
          iexact Hr
        iexact Hs

/-! ## Loads and stores of a chunk -/

section Chunk
variable (c : Dev nD) {α : Type}

theorem run_load {Q : α → sProp 𝕄} (M : Memref sig .tc .vmem S512x256 .f32) (k : Fin 16) (X : Vec F S32x256 .f32) {hl : M.view.LoadsAt (chunk k).toLoadRect}
    {g : Vec F S32x256 .f32 → Prog (TpuEff nD τ sig (Elt F) Λ₀ .tc) α} :
    (owns (c : Thread nD τ) (M.slice (chunk k) (fun _ => rfl)) fullShare X : sProp 𝕄)
      ⊢ iprop((owns (c : Thread nD τ) (M.slice (chunk k) (fun _ => rfl)) fullShare X -∗ run c (g X) Q)
        -∗ run c (.op (.load M (chunk k).toLoadRect hl) g) Q) := by
  unfold run
  unfold owns
  iintro ⟨%f, %hf, H⟩ Hk
  iapply (wp_load_rect 𝒱₀ (c : Thread nD τ) none Set.univ (m := M) (r := chunk k) (Finset.Subset.refl _)) $$ H
  iintro H
  rw [show (M.access (chunk k)).read (Elt F) f = X from hf]
  iapply Hk
  iexists f
  isplitr; · ipureintro; exact hf
  iexact H

theorem run_store {Q : α → sProp 𝕄} (M : Memref sig .tc .vmem S512x256 .f32) (k : Fin 16) (X w : Vec F S32x256 .f32)
    {hx : (M.access (chunk k)).Stores Finset.univ} {hm : (Finset.univ : Finset (chunk k).shape.Idx) = Finset.univ ∨ ∀ a, (chunk k).stride a = 1}
    {g : PUnit → Prog (TpuEff nD τ sig (Elt F) Λ₀ .tc) α} :
    (owns (c : Thread nD τ) (M.slice (chunk k) (fun _ => rfl)) fullShare X : sProp 𝕄)
      ⊢ iprop((owns (c : Thread nD τ) (M.slice (chunk k) (fun _ => rfl)) fullShare w -∗ run c (g ⟨⟩) Q)
        -∗ run c (.op (.store M (chunk k) w Finset.univ hx hm) g) Q) := by
  unfold run
  unfold owns
  iintro ⟨%f, %hf, H⟩ Hk
  iapply (wp_store 𝒱₀ (c : Thread nD τ) none Set.univ (m := M) (r := chunk k) (Mk := Finset.univ) (S := (M.access (chunk k)).set)
    (fun i hi => hi)) $$ H
  iintro H
  iapply Hk
  iexists _
  isplitr
  swap
  · iexact H
  ipureintro
  exact View.read_write_univ _ _

theorem run_load_x {Q : α → sProp 𝕄} (f : Vec F S512x256 .f32) {hl} {g : Vec F S512x256 .f32 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ run c (g f) Q)
        -∗ run c (.op (.load xM (Rect.unit (s := S512x256) ![0, 0] S512x256.size inb_S512x256_S512x256_0_0).toLoadRect hl) g) Q) := by
  unfold run
  iintro H Hk
  iapply (wp_load 𝒱₀ (c : Thread nD τ) none Set.univ (m := xM) (Finset.subset_univ _)) $$ H
  iintro H
  rw [show xM.view.readAt (Elt F) (Rect.unit (s := S512x256) ![0, 0] S512x256.size inb_S512x256_S512x256_0_0).toLoadRect f = f from
    Memref.readAt_unit_zero (Elt F) cc0_stg1_0 (by decide) _ _]
  iapply Hk
  iexact H

theorem run_load_d {Q : α → sProp 𝕄} (f : Vec F S1x512 .i32) {hl} {g : Vec F S1x512 .i32 → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} f) -∗ run c (g f) Q)
        -∗ run c (.op (.load dM (Rect.unit (s := S1x512) ![0, 0] S1x512.size inb_S1x512_S1x512_0_0).toLoadRect hl) g) Q) := by
  unfold run
  iintro H Hk
  iapply (wp_load 𝒱₀ (c : Thread nD τ) none Set.univ (m := dM) (Finset.subset_univ _)) $$ H
  iintro H
  rw [show dM.view.readAt (Elt F) (Rect.unit (s := S1x512) ![0, 0] S1x512.size inb_S1x512_S1x512_0_0).toLoadRect f = f from
    Memref.readAt_unit_zero (Elt F) cc0_stg0_0 (by decide) _ _]
  iapply Hk
  iexact H

end Chunk

/-! ## Copies and waits -/

section Talk
variable (sn : Dev nD → Fin 17 → Bool) (pay : Dev nD → Fin 16 → Vec F S32x256 .f32) (κ : GSem nD τ sig → ℕ) (c : Dev nD)

/-- A semaphore's rounds, shared. -/
abbrev inv (g : GSem nD τ sig) : sProp 𝕄 := cellInv ER (Rd sn pay) (κ g) g

/-- The shared state device `c` uses. -/
def invs : sProp 𝕄 :=
  iprop(inv sn pay κ (barCell c) ∗ inv sn pay κ (barCell (pr c))
    ∗ bigSep Finset.univ fun j : Fin 17 => iprop(inv sn pay κ (sendCell c j) ∗ inv sn pay κ (recvCell c j) ∗ inv sn pay κ (recvCell (pr c) j)))

instance invs_persistent : BI.Persistent (invs sn pay κ c) := by unfold invs; infer_instance

theorem invs_at (j : Fin 17) : invs sn pay κ c ⊢ iprop(inv sn pay κ (sendCell c j) ∗ inv sn pay κ (recvCell c j) ∗ inv sn pay κ (recvCell (pr c) j)) := by
  unfold invs
  iintro ⟨-, -, H⟩
  iapply (bigSep_at (Finset.mem_univ j) _) $$ H

/-- What device `c` needs, beside the chunk, to make transfer `j`. -/
def T (j : Fin 17) : sProp 𝕄 :=
  iprop(dutyTok ER (sendCell c j) 0 () ∗ dutyTok ER (recvCell (pr c) j) 0 () ∗ reached ER (sendCell c j) 0
    ∗ held? (sn c j) iprop(free (pr c) (rBuf j) ∗ reached ER (recvCell (pr c) j) 0))

variable {α : Type}

theorem run_copy {Q : α → sProp 𝕄} (j : Fin 17) (src dst : Memref sig .tc .vmem S32x256 .f32) (hs : sBuf j = src) (hd : rBuf j = dst) (h : sn c j = true)
    (X : Vec F S32x256 .f32) (hX : ∀ hj : j.val < 16, X = pay c ⟨j.val, hj⟩) (n : Nat) (hn : n = j.val) (W : Waits sig ℕ)
    {hsc} {hsrc : src.view.WordExact} {hdst : dst.view.WordExact} {hsem}
    {k : PUnit → Prog (TpuEff nD τ sig (Elt F) Λ₀ .tc) α} :
    iprop(invs sn pay κ c ∗ T sn c j ∗ owns (c : Thread nD τ) src fullShare X ∗ owes (c : Thread nD τ) (due sn c n) W)
      ⊢ iprop(((cred (tallyAt (sendCell c j) kx N) ∗ owes (c : Thread nD τ) (due sn c (n + 1)) W) -∗ run c (k ⟨⟩) Q)
        -∗ run c (.op (.enqueueDma src (.remote (Dev.tc (pr c) : Thread nD τ) dst (.dma (sSem j)) hsc) (.dma (rSem j)) hsrc hdst hsem) k) Q) := by
  unfold run
  subst hs hd hn
  unfold T held?
  rw [if_pos h]
  iintro ⟨#Hi, ⟨Hts, Htr, #Hrs, ⟨Hf, #Hrr⟩⟩, Hx, HO⟩ Hk
  unfold free owns
  icases Hf with ⟨%Y, %fd, %hfd, Hf⟩
  icases Hx with ⟨%fs, %hfs, Hx⟩
  ihave Hj := (invs_at sn pay κ c j) $$ Hi
  icases Hj with ⟨#HIs, #HIr, #HIp⟩
  iapply (Rounds.wp_send_pointsTo 𝒱₀ ER (Rd sn pay) (c : Thread nD τ) none (c' := (pr c : Thread nD τ)) (src := sBuf j) (dst := rBuf j)
      (sS := .dma (sSem j)) (sem := .dma (rSem j)) (q := fullShare) (fs := fs) (κ₁ := κ (sendCell c j)) (κ₂ := κ (recvCell (pr c) j))
      (r₁ := 0) (r₂ := 0) (d₁ := ()) (d₂ := ()) (fd := fd)
      (by rw [duties_send sn pay c j h]; exact Finset.mem_singleton_self _)
      (by rw [duties_recv sn pay (pr c) j (by rw [pr_pr]; exact h)]; exact Finset.mem_singleton_self _)
      kx kx N (credit_r j) (amount_send sn pay c j ()) (amount_recv sn pay (pr c) j ()) (due sn c (j.val + 1)) (due_on sn c j h) (W := W)
      (by rw [payload_send]; unfold sendPay; exact (owns_intro (c : Thread nD τ) (sBuf j) fullShare fs).trans (free_intro c _ _))
      (by
        rw [payload_recv]; unfold recvPay
        iintro H
        iexists X
        isplitr
        · ipureintro; intro hj; rw [pr_pr]; exact hX hj
        unfold owns
        iexists _
        isplitr
        swap
        · iexact H
        ipureintro
        rw [View.read_write_univ]; exact hfs)) $$ [Hx Hf HO Hts Htr]
  · isplitr; · iexact HIs
    isplitr; · iexact HIp
    isplitl [Hx]; · iexact Hx
    isplitl [Hf]; · iexact Hf
    isplitl [HO]; · iexact HO
    isplitl [Hts]; · iexact Hts
    isplitr; · iexact Hrs
    isplitl [Htr]; · iexact Htr
    iexact Hrr
  iexact Hk

/-- A sender's wait: its chunk back, the semaphore at rest. -/
theorem run_wait_send {Q : α → sProp 𝕄} (j : Fin 17) {src dst : Memref sig .tc .vmem S32x256 .f32} (hN : dst.view.dmaCredit = N) (h : sn c j = true) (W : Waits sig ℕ)
    {hsrc : src.view.WordExact} {hdst : dst.view.WordExact} {k : PUnit → Prog (TpuEff nD τ sig (Elt F) Λ₀ .tc) α} :
    iprop(invs sn pay κ c ∗ cred (tallyAt (sendCell c j) kx N) ∗ owes (c : Thread nD τ) 0 W ∗ atPos ER (sendCell c j) 0 ∅ 0)
      ⊢ iprop((((∃ W, owes (c : Thread nD τ) (0 : CellTallies nD τ sig ℕ) W) ∗ free c (sBuf j) ∗ semVal (sendCell c j) 0) -∗ run c (k ⟨⟩) Q)
        -∗ run c (.op (.waitDma2 (sSem j) src dst hsrc hdst) k) Q) := by
  unfold run
  iintro ⟨#Hi, Hc, HO, Hat⟩ Hk
  ihave Hj := (invs_at sn pay κ c j) $$ Hi
  icases Hj with ⟨#HIs, -, -⟩
  iapply (Rounds.wp_wait_rest_token 𝒱₀ ER (Rd sn pay) (c : Thread nD τ) none (κ := κ (sendCell c j))
      (wpE_waitDma2_eq 𝒱₀ (c : Thread nD τ) none Set.univ) (Set.mem_univ _) kx (O := 0) (W := W) (R := 0) (m := 0) (T := ∅)
      (by rw [Nat.zero_add, hN, expect_send sn pay c j h])) $$ [Hc HO Hat]
  · isplitr; · iexact HIs
    isplitl [Hc]; · rw [hN]; iexact Hc
    isplitl [HO]; · iexact HO
    isplitr; · rw [MayWait_zero]; iempintro
    iexact Hat
  iintro ⟨HO, Hat, -, Hp⟩
  imod (Rounds.cell_close ER (Rd sn pay) (Set.mem_univ (κ (sendCell c j))) id (R := 0 + 1) (duties_later sn pay (sendCell c j))) $$ [Hat] with H0
  · isplitr; · iexact HIs
    iexact Hat
  iapply Hk
  isplitl [HO]; · iexists _; iexact HO
  isplitl [Hp]; · iapply (Entails.of_eq ((rest_send sn pay c j h).trans (by unfold sendPay; rfl))) $$ Hp
  iexact H0

/-- A receiver's wait: the arrived chunk, the semaphore at rest. -/
theorem run_wait_recv {Q : α → sProp 𝕄} (j : Fin 17) {src dst : Memref sig .tc .vmem S32x256 .f32} (hN : dst.view.dmaCredit = N) (h : sn (pr c) j = true) (W : Waits sig ℕ)
    {hsrc : src.view.WordExact} {hdst : dst.view.WordExact} {k : PUnit → Prog (TpuEff nD τ sig (Elt F) Λ₀ .tc) α} :
    iprop(invs sn pay κ c ∗ cred (tallyAt (recvCell c j) kx N) ∗ owes (c : Thread nD τ) 0 W ∗ atPos ER (recvCell c j) 0 ∅ 0)
      ⊢ iprop((((∃ W, owes (c : Thread nD τ) (0 : CellTallies nD τ sig ℕ) W) ∗ recvPay pay c j ∗ semVal (recvCell c j) 0) -∗ run c (k ⟨⟩) Q)
        -∗ run c (.op (.waitDma2 (rSem j) src dst hsrc hdst) k) Q) := by
  unfold run
  iintro ⟨#Hi, Hc, HO, Hat⟩ Hk
  ihave Hj := (invs_at sn pay κ c j) $$ Hi
  icases Hj with ⟨-, #HIr, -⟩
  iapply (Rounds.wp_wait_rest_token 𝒱₀ ER (Rd sn pay) (c : Thread nD τ) none (κ := κ (recvCell c j))
      (wpE_waitDma2_eq 𝒱₀ (c : Thread nD τ) none Set.univ) (Set.mem_univ _) kx (O := 0) (W := W) (R := 0) (m := 0) (T := ∅)
      (by rw [Nat.zero_add, hN, expect_recv sn pay c j h])) $$ [Hc HO Hat]
  · isplitr; · iexact HIr
    isplitl [Hc]; · rw [hN]; iexact Hc
    isplitl [HO]; · iexact HO
    isplitr; · rw [MayWait_zero]; iempintro
    iexact Hat
  iintro ⟨HO, Hat, -, Hp⟩
  imod (Rounds.cell_close ER (Rd sn pay) (Set.mem_univ (κ (recvCell c j))) id (R := 0 + 1) (duties_later sn pay (recvCell c j))) $$ [Hat] with H0
  · isplitr; · iexact HIr
    iexact Hat
  iapply Hk
  isplitl [HO]; · iexists _; iexact HO
  isplitl [Hp]; · iapply (Entails.of_eq (rest_recv sn pay c j h)) $$ Hp
  iexact H0

/-- A semaphore nothing raises, put at rest. -/
theorem rest_idle_send (j : Fin 17) (h : ¬ sn c j = true) :
    iprop(invs sn pay κ c ∗ atPos ER (sendCell c j) 0 ∅ 0) ⊢ (|={Set.univ}=> semVal (sendCell c j) 0 : sProp 𝕄) := by
  iintro ⟨#Hi, Hat⟩
  ihave Hj := (invs_at sn pay κ c j) $$ Hi
  icases Hj with ⟨#HIs, -, -⟩
  iapply (Rounds.cell_close ER (Rd sn pay) (Set.mem_univ (κ (sendCell c j))) id (R := 0) (duties_send_none sn pay c j h))
  isplitr; · iexact HIs
  iexact Hat

theorem rest_idle_recv (j : Fin 17) (h : ¬ sn (pr c) j = true) :
    iprop(invs sn pay κ c ∗ atPos ER (recvCell c j) 0 ∅ 0) ⊢ (|={Set.univ}=> semVal (recvCell c j) 0 : sProp 𝕄) := by
  iintro ⟨#Hi, Hat⟩
  ihave Hj := (invs_at sn pay κ c j) $$ Hi
  icases Hj with ⟨-, #HIr, -⟩
  iapply (Rounds.cell_close ER (Rd sn pay) (Set.mem_univ (κ (recvCell c j))) id (R := 0) (duties_recv_none sn pay c j h))
  isplitr; · iexact HIr
  iexact Hat

end Talk

end Cert.KernelIdeal.A2av

end
-- ==== Proof.Whole.lean ====
/- The whole body as its steps in order. -/
module

public import proofs.«01_k».proof.Proof.Steps

@[expose] public section

noncomputable section

namespace Cert.KernelIdeal.A2av

open Idealize.ShloMosaic Idealize.SL.Sem
open Cert.KernelIdeal Cert.KernelIdeal.Gen

variable {F : FTy → Type} [FloatOps F]

theorem seqFin_last : ∀ (n : Nat) (p : Fin (n + 1) → Pg F),
    seqFin (n + 1) p = seqFin n (fun i => p i.castSucc) >>= fun _ => p (Fin.last n)
  | 0, p => by
    simp only [seqFin, Prog.bind_ret]
    exact bind_pure (p 0)
  | n + 1, p => by
    rw [seqFin, seqFin_last n, seqFin]
    simp only [Prog.bind_assoc]
    rfl

theorem seqFin_16 {β : Type} (p : Fin 16 → Pg F) (k : PUnit → Prog (TpuEff nD τ sig (Elt F) Λ₀ .tc) β) :
    (seqFin 16 p >>= k) = (p 0 >>= fun _ => p 1 >>= fun _ => p 2 >>= fun _ => p 3 >>= fun _ => p 4 >>= fun _ => p 5 >>= fun _ => p 6 >>= fun _ => p 7 >>= fun _ => p 8 >>= fun _ => p 9 >>= fun _ => p 10 >>= fun _ => p 11 >>= fun _ => p 12 >>= fun _ => p 13 >>= fun _ => p 14 >>= fun _ => p 15 >>= k) := by
  simp only [seqFin, Prog.bind_assoc, Prog.pure_eq_ret, Prog.bind_ret]
  rfl

theorem seqFin_14 {β : Type} (p : Fin 14 → Pg F) (k : PUnit → Prog (TpuEff nD τ sig (Elt F) Λ₀ .tc) β) :
    (seqFin 14 p >>= k) = (p 0 >>= fun _ => p 1 >>= fun _ => p 2 >>= fun _ => p 3 >>= fun _ => p 4 >>= fun _ => p 5 >>= fun _ => p 6 >>= fun _ => p 7 >>= fun _ => p 8 >>= fun _ => p 9 >>= fun _ => p 10 >>= fun _ => p 11 >>= fun _ => p 12 >>= fun _ => p 13 >>= k) := by
  simp only [seqFin, Prog.bind_assoc, Prog.pure_eq_ret, Prog.bind_ret]
  rfl

theorem finStep_bind {β : Type} (d : Dev nD) (v : Vec F S1x512 .i32) (i : Fin 16) (k : PUnit → Prog (TpuEff nD τ sig (Elt F) Λ₀ .tc) β) :
    (finStep d v i >>= k) = (ifOn (sB d v i) (waitSendBody i) >>= fun _ => ifOn (rB d v i) (waitRecvBody i) >>= fun _ =>
      ifOn (Scalar.andi (rB d v i) (kB d v i)) (addBody i) >>= fun _ =>
      ifOn (Scalar.andi (rB d v i) (Scalar.xori (kB d v i) 1#1)) (copyBody i) >>= k) := by
  simp only [finStep, Prog.bind_assoc]

theorem bind_cong {α β : Type} {p p' : Prog (TpuEff nD τ sig (Elt F) Λ₀ .tc) α} {k k' : α → Prog (TpuEff nD τ sig (Elt F) Λ₀ .tc) β}
    (h : p = p') (h' : ∀ a, k a = k' a) : (p >>= k) = (p' >>= k') := by
  rw [h, funext h']

theorem ifK_bind {β : Type} {w : BitVec 1} {p : Pg F} {k k' : Prog (TpuEff nD τ sig (Elt F) Λ₀ .tc) β} (h : k = k') :
    ifK w p k = (ifOn w p >>= fun _ => k') := by
  rw [ifK_eq, h]

set_option maxHeartbeats 4000000 in
theorem part21_eq : k0_part21 (F := F) dM (Memref.isWhole_whole _) xM (Memref.isWhole_whole _) oM (Memref.isWhole_whole _) sM (Memref.isWhole_whole _) rM (Memref.isWhole_whole _)
      uM (Memref.isWhole_whole _) cc0_scratch3 cc0_scratch4 = (do
      let d ← Prog.lift .deviceId
      semSignalWord (⟨k0_dev1 d, Facts₀.k0_dev1_lt d⟩ : Dev nD) barrier0 1#32
      semWaitWord barrier0 1#32
      let v : Vec F S1x512 .i32 ← Prog.lift (.load dM (Rect.unit (s := S1x512) ![0, 0] S1x512.size inb_S1x512_S1x512_0_0).toLoadRect (View.loadsAt_vmem h_S1x512))
      seqFin 16 fun k => ifOn (sB d v k) (sendBody (devs d (k.castLE (by decide))) (posS d v) k)
      ifOn (zB d v) (dummyBody (devs d 16))
      seqFin 16 fun k => ifOn (kB d v k) (keepBody (posK d v) k)
      seqFin 14 fun k => finStep d v (k.castLE (by decide))
      ifOn (sB d v 14) (waitSendBody 14)
      ifOn (rB d v 14) (waitRecvBody 14)
      ifOn (Scalar.andi (rB d v 14) (kB d v 14)) (addBody 14)
      ifOn (Scalar.andi (rB d v 14) (Scalar.xori (kB d v 14) 1#1)) (copyBody 14)
      ifOn (sB d v 15) (waitSendBody 15)
      ifOn (rB d v 15) (waitRecvBody 15)
      ifOn (Scalar.andi (rB d v 15) (kB d v 15)) (addBody 15)
      pure ⟨Scalar.remsi (Scalar.divsi (Dev.word d) 8#32) 2#32, Scalar.remsi (Scalar.divsi (Dev.word d) 1#32) 4#32, Scalar.subi 1#32 (yW d), yBit d,
        nS d v, nK d v, rB d v 15⟩) := by
  unfold k0_part21
  simp (config := { zeta := false }) only [part1_eq, part2_eq, part3_eq, part4_eq, part5_eq, part6_eq, part7_eq, part8_eq, part9_eq, part10_eq, part11_eq, part12_eq, part13_eq, part14_eq,
    part15_eq, part16_eq, part17_eq, part18_eq, part19_eq, part20_eq, Prog.bind_assoc, Prog.pure_eq_ret, Prog.bind_ret, ifK_eq]
  simp only [seqFin_16, seqFin_14, finStep_bind]
  repeat (with_reducible refine bind_cong rfl (fun _ => ?_))
  refine Eq.trans ?_ (ifK_bind (ifK_bind (ifK_bind (ifK_bind rfl))))
  rfl

set_option maxHeartbeats 4000000 in
/-- The body: the exchange's opening, the destinations read, the steps in order. -/
theorem body_eq : cc0_body (F := F) dM (Memref.isWhole_whole _) xM (Memref.isWhole_whole _) oM (Memref.isWhole_whole _) sM (Memref.isWhole_whole _) rM (Memref.isWhole_whole _)
      uM (Memref.isWhole_whole _) cc0_scratch3 cc0_scratch4
    = (do
      let d ← Prog.lift .deviceId
      semSignalWord (pr d) barrier0 1#32
      semWaitWord barrier0 1#32
      let v : Vec F S1x512 .i32 ← Prog.lift (.load dM (Rect.unit (s := S1x512) ![0, 0] S1x512.size inb_S1x512_S1x512_0_0).toLoadRect (View.loadsAt_vmem h_S1x512))
      tail d v (pr d)) := by
  have h1 : ∀ d, (⟨k0_dev1 d, Facts₀.k0_dev1_lt d⟩ : Dev nD) = pr d := fun d => Fin.ext (k0_dev1_eq d)
  unfold cc0_body
  simp (config := { zeta := false }) only [part21_eq, Prog.bind_assoc, Prog.pure_eq_ret, Prog.bind_ret, ifK_eq, h1, devs_eq]
  simp only [tail, seqFin_last 15, seqFin_last 14, finStep, Prog.bind_assoc, Prog.pure_eq_ret, Prog.bind_ret]
  repeat (with_reducible refine bind_cong rfl (fun _ => ?_))
  refine Eq.trans ?_ (ifK_bind (ifK_bind rfl))
  rfl

end Cert.KernelIdeal.A2av

end
-- ==== Proof.Body.lean ====
/- The body run at any device: from its buffers, its rights on the semaphores and what it owes, to the result in place. -/
module

public import proofs.«01_k».proof.Proof.Steps2
public import proofs.«01_k».proof.Proof.Words
public import proofs.«01_k».proof.Proof.Whole

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem run_fin (c : Dev nD) {Q : sProp 𝕄} : Q ⊢ run c (.ret ⟨⟩ : Pg F) fun _ => Q := le_wp_ret _ _ _ (⟨⟩ : PUnit) (fun _ => Q)

attribute [local irreducible] run

theorem ifOn_pos {b : BitVec 1} (h : on b) (p : Pg F) : ifOn b p = p := if_pos h
theorem ifOn_neg {b : BitVec 1} (h : ¬ on b) (p : Pg F) : ifOn b p = pure ⟨⟩ := if_neg h

theorem finStep_eq (c : Dev nD) (v : Vec F S1x512 .i32) (k : Fin 16) : finStep c v k = (ifOn (sB c v k) (waitSendBody k) >>= fun _ =>
    ifOn (rB c v k) (waitRecvBody k) >>= fun _ =>
    ifOn (Scalar.andi (rB c v k) (kB c v k)) (addBody k) >>= fun _ =>
    ifOn (Scalar.andi (rB c v k) (Scalar.xori (kB c v k) 1#1)) (copyBody k)) := rfl

theorem tail_eq (c : Dev nD) (v : Vec F S1x512 .i32) (p : Dev nD) :
    tail c v p = (seqFin 16 (fun k => ifOn (sB c v k) (sendBody p (posS c v) k)) >>= fun _ =>
    ifOn (zB c v) (dummyBody p) >>= fun _ =>
    seqFin 16 (fun k => ifOn (kB c v k) (keepBody (posK c v) k)) >>= fun _ =>
    seqFin 16 (fun k => finStep c v k) >>= fun _ =>
    ifOn (zB c v) dummyWaitBody >>= fun _ => pure ⟨⟩) := rfl

/-- A step on one part of what is held, and the rest of the program. -/
theorem run_via {c : Dev nD} {p q : Pg F} {P A B : sProp 𝕄} {Q : PUnit → sProp 𝕄} (R : sProp 𝕄)
    (h : A ⊢ run c p fun _ => B) (hP : P ⊢ iprop(A ∗ R)) (hq : iprop(B ∗ R) ⊢ run c q Q) : P ⊢ run c (p >>= fun _ => q) Q :=
  run_seq (hP.trans (run_frame R h)) hq

section Run
variable (dst : Dev nD → Vec F S1x512 .i32) (xin : Dev nD → Vec F S512x256 .f32)

/-! ## The transfers made, what they carry, and what the devices end with -/

abbrev up (k : Fin 16) : Fin 17 := k.castLE (by decide)

/-- Transfer `j` of device `c` is made. -/
def sn (c : Dev nD) (j : Fin 17) : Bool :=
  if h : j.val < 16 then decide (on (sB c (dst c) ⟨j.val, h⟩)) else decide (on (zB c (dst c)))

/-- What it carries. -/
def pay (c : Dev nD) (k : Fin 16) : Vec F S32x256 .f32 := prod (posS c (dst c)) (xin c) k

/-- Chunk `k` of the result. -/
def outVec (c : Dev nD) (k : Fin 16) : Vec F S32x256 .f32 :=
  if sn dst (pr c) (up k) = true then
    if on (kB c (dst c) k) then addf (prod (posK c (dst c)) (xin c) k) (pay dst xin (pr c) k) else pay dst xin (pr c) k
  else prod (posK c (dst c)) (xin c) k

theorem sn_up (c : Dev nD) (k : Fin 16) : sn dst c (up k) = true ↔ on (sB c (dst c) k) := by
  unfold sn
  rw [dif_pos (show (up k).val < 16 from k.isLt), decide_eq_true_iff]
  rfl
theorem sn_last (c : Dev nD) : sn dst c 16 = true ↔ on (zB c (dst c)) := by
  unfold sn
  rw [dif_neg (by decide), decide_eq_true_iff]

theorem none_of_last (c : Dev nD) (h : sn dst c 16 = true) (k : Fin 16) : ¬ sn dst c (up k) = true := by
  rw [sn_last] at h
  rw [sn_up]
  show ¬ on (sBit (yBit c) (nS c (dst c)) (Scalar.subi 512#32 (nS c (dst c))) k)
  rw [zero_of_zBit _ h]
  exact none_sent _ _

variable (H : ∀ c, nS c (dst c) = nS (pr c) (dst (pr c)))

include H in
theorem sn_recv (c : Dev nD) (k : Fin 16) : sn dst (pr c) (up k) = true ↔ on (rB c (dst c) k) := by
  rw [sn_up]
  show on (sBit (yBit (pr c)) (nS (pr c) (dst (pr c))) (Scalar.subi 512#32 (nS (pr c) (dst (pr c)))) k) ↔ _
  rw [← H c, yBit_pr, sBit_not]
include H in
theorem sn_last_recv (c : Dev nD) : sn dst (pr c) 16 = true ↔ on (zB c (dst c)) := by
  rw [sn_last]
  show on (zBit (nS (pr c) (dst (pr c)))) ↔ _
  rw [← H c]

attribute [local irreducible] finStep seqFin tail

/-! ## The state between the steps -/

variable (κ : GSem nD τ sig → ℕ) (c : Dev nD)

abbrev xPts : sProp 𝕄 := ((c : Thread nD τ).loc cc0_stg1_0) ↦{fullShare} xin c
abbrev owing (n : ℕ) : sProp 𝕄 := iprop(∃ W, owes (c : Thread nD τ) (due (sn dst) c n) W)
abbrev shared : sProp 𝕄 := invs (sn dst) (pay dst xin) κ c

abbrev oChunk (k : Fin 16) : Memref sig .tc .vmem S32x256 .f32 := oM.slice (chunk k) (fun _ => rfl)

/-- What is handed on from step to step while the transfers are made. -/
def St (n : ℕ) : sProp 𝕄 := iprop(shared dst xin κ c ∗ xPts xin c ∗ owing dst c n)

/-- A chunk of the send buffer after its step: away, to come back with a credit, or still here. -/
def away (k : Fin 16) : sProp 𝕄 :=
  if sn dst c (up k) = true then cred (tallyAt (sendCell c (up k)) kx N) else free c (sChunk k)

/-! ## The steps -/

theorem send_step (k : Fin 16) :
    iprop((free c (sChunk k) ∗ T (sn dst) c (up k)) ∗ St dst xin κ c k.val)
      ⊢ run c (ifOn (sB c (dst c) k) (sendBody (pr c) (posS c (dst c)) k)) fun _ => iprop(away dst c k ∗ St dst xin κ c (k.val + 1)) := by
  unfold away
  by_cases h : on (sB c (dst c) k)
  · have hs := (sn_up dst c k).mpr h
    rw [ifOn_pos h, if_pos hs]
    unfold sendBody St free
    simp only [Prog.lift, Prog.bind_op, Prog.bind_ret, Prog.pure_eq_ret]
    iintro ⟨⟨⟨%X, Hs⟩, HT⟩, #Hi, Hx, ⟨%W, HO⟩⟩
    iapply (run_load_x c (xin c)) $$ Hx
    iintro Hx
    iapply (run_load c sM k X) $$ Hs
    iintro Hs
    iapply (run_store c sM k X _) $$ Hs
    rw [shapeCast_self]
    iintro Hs
    iapply (run_copy (sn dst) (pay dst xin) κ c (up k) (sChunk k) (rChunk k) (sBuf_castLE k) (rBuf_castLE k) hs (pay dst xin c k)
      (fun _ => rfl) k.val rfl W) $$ [HT Hs HO]
    · isplitr; · iexact Hi
      isplitl [HT]; · iexact HT
      isplitl [Hs]; · iexact Hs
      iexact HO
    iintro ⟨Hc, HO⟩
    iapply (run_fin c)
    isplitl [Hc]; · iexact Hc
    isplitr; · iexact Hi
    isplitl [Hx]; · iexact Hx
    iexists W; iexact HO
  · have hs := fun h' => h ((sn_up dst c k).mp h')
    rw [ifOn_neg h, if_neg hs]
    refine run_ret ?_
    unfold St owing
    rw [show due (sn dst) c k.val = due (sn dst) c (k.val + 1) from due_off (sn dst) c (up k) hs]
    iintro ⟨⟨Hf, -⟩, HS⟩
    isplitl [Hf]; · iexact Hf
    iexact HS

/-- Chunk 0's place while the empty exchange is on: away. -/
def away0 : sProp 𝕄 := if sn dst c 16 = true then cred (tallyAt (sendCell c 16) kx N) else away dst c 0

theorem dummy_step :
    iprop((away dst c 0 ∗ T (sn dst) c 16) ∗ St dst xin κ c 16)
      ⊢ run c (ifOn (zB c (dst c)) (dummyBody (pr c))) fun _ => iprop(away0 dst c ∗ St dst xin κ c 17) := by
  unfold away0
  by_cases h : on (zB c (dst c))
  · have hs := (sn_last dst c).mpr h
    rw [ifOn_pos h, if_pos hs]
    unfold dummyBody St away free
    rw [if_neg (none_of_last dst c hs 0)]
    simp only [Prog.lift, Prog.bind_op, Prog.bind_ret, Prog.pure_eq_ret]
    iintro ⟨⟨⟨%X, Hs⟩, HT⟩, #Hi, Hx, ⟨%W, HO⟩⟩
    iapply (run_copy (sn dst) (pay dst xin) κ c 16 (sChunk 0) uM sBuf_last rBuf_last hs X
      (fun h => absurd h (by decide)) 16 rfl W) $$ [HT Hs HO]
    · isplitr; · iexact Hi
      isplitl [HT]; · iexact HT
      isplitl [Hs]; · iexact Hs
      iexact HO
    iintro ⟨Hc, HO⟩
    iapply (run_fin c)
    isplitl [Hc]; · iexact Hc
    isplitr; · iexact Hi
    isplitl [Hx]; · iexact Hx
    iexists W; iexact HO
  · have hs := fun h' => h ((sn_last dst c).mp h')
    rw [ifOn_neg h, if_neg hs]
    refine run_ret ?_
    unfold St owing
    rw [show due (sn dst) c 16 = due (sn dst) c 17 from due_off (sn dst) c 16 hs]
    iintro ⟨⟨Hf, -⟩, HS⟩
    isplitl [Hf]; · iexact Hf
    iexact HS

/-- A chunk of the output after the kept rows are written. -/
def okept (k : Fin 16) : sProp 𝕄 :=
  if on (kB c (dst c) k) then owns (c : Thread nD τ) (oChunk k) fullShare (prod (posK c (dst c)) (xin c) k) else free c (oChunk k)

theorem keep_step (k : Fin 16) :
    iprop(free c (oChunk k) ∗ xPts xin c)
      ⊢ run c (ifOn (kB c (dst c) k) (keepBody (posK c (dst c)) k)) fun _ => iprop(okept dst xin c k ∗ xPts xin c) := by
  unfold okept
  by_cases h : on (kB c (dst c) k)
  · rw [ifOn_pos h, if_pos h]
    unfold keepBody free
    simp only [Prog.lift, Prog.bind_op, Prog.bind_ret, Prog.pure_eq_ret]
    iintro ⟨⟨%X, Hs⟩, Hx⟩
    iapply (run_load_x c (xin c)) $$ Hx
    iintro Hx
    iapply (run_load c oM k X) $$ Hs
    iintro Hs
    iapply (run_store c oM k X _) $$ Hs
    iintro Hs
    iapply (run_fin c)
    isplitl [Hs]; · iexact Hs
    iexact Hx
  · rw [ifOn_neg h, if_neg h]
    exact run_ret (Entails.refl _)

/-! ### The finish -/

/-- The shared state, nothing owed. -/
def Sf : sProp 𝕄 := iprop(shared dst xin κ c ∗ ∃ W, owes (c : Thread nD τ) (0 : CellTallies nD τ sig ℕ) W)

/-- A landing chunk before, and after, its wait. -/
def landing (j : Fin 17) : sProp 𝕄 :=
  if sn dst (pr c) j = true then cred (tallyAt (recvCell c j) kx N) else free c (rBuf j)
def landed (j : Fin 17) : sProp 𝕄 :=
  if sn dst (pr c) j = true then recvPay (pay dst xin) c j else free c (rBuf j)

/-- A chunk of the send buffer, unless the empty exchange has it. -/
abbrev here (k : Fin 16) (P : sProp 𝕄) : sProp 𝕄 := held? (!(sn dst c 16 && k == 0)) P

theorem here_of_sent (k : Fin 16) (P : sProp 𝕄) (h : sn dst c (up k) = true) : here dst c k P = P := by
  unfold here held?
  rw [if_pos]
  cases hz : sn dst c 16
  · rfl
  · exact absurd h (none_of_last dst c hz k)

theorem wait_send_step (k : Fin 16) :
    iprop((here dst c k (away dst c k) ∗ atPos ER (sendCell c (up k)) 0 ∅ 0) ∗ Sf dst xin κ c)
      ⊢ run c (ifOn (sB c (dst c) k) (waitSendBody k)) fun _ =>
        iprop((here dst c k (free c (sChunk k)) ∗ semVal (sendCell c (up k)) 0) ∗ Sf dst xin κ c) := by
  by_cases h : on (sB c (dst c) k)
  · have hs := (sn_up dst c k).mpr h
    rw [ifOn_pos h, here_of_sent dst c k _ hs, here_of_sent dst c k _ hs]
    unfold waitSendBody Sf away
    rw [if_pos hs]
    simp only [Prog.lift, Prog.bind_op, Prog.bind_ret, Prog.pure_eq_ret]
    iintro ⟨⟨Hc, Hat⟩, #Hi, ⟨%W, HO⟩⟩
    iapply (run_wait_send (sn dst) (pay dst xin) κ c (up k) (src := rChunk k) (dst := sChunk k) rfl hs W) $$ [Hc Hat HO]
    · isplitr; · iexact Hi
      isplitl [Hc]; · iexact Hc
      isplitl [HO]; · iexact HO
      iexact Hat
    rw [sBuf_castLE]
    iintro ⟨HO, Hf, H0⟩
    iapply (run_fin c)
    isplitr [HO]
    · isplitl [Hf]; · iexact Hf
      iexact H0
    isplitr; · iexact Hi
    iexact HO
  · have hs := fun h' => h ((sn_up dst c k).mp h')
    rw [ifOn_neg h]
    unfold away Sf
    rw [if_neg hs, Prog.pure_eq_ret, run_eq, wp_ret]
    iintro ⟨⟨Hf, Hat⟩, #Hi, HO⟩
    imod (rest_idle_send (sn dst) (pay dst xin) κ c (up k) hs) $$ [Hat] with H0
    · isplitr; · iexact Hi
      iexact Hat
    imodintro
    isplitr [HO]
    · isplitl [Hf]; · iexact Hf
      iexact H0
    isplitr; · iexact Hi
    iexact HO

include H in
theorem wait_recv_step (k : Fin 16) :
    iprop((landing dst c (up k) ∗ atPos ER (recvCell c (up k)) 0 ∅ 0) ∗ Sf dst xin κ c)
      ⊢ run c (ifOn (rB c (dst c) k) (waitRecvBody k)) fun _ =>
        iprop((landed dst xin c (up k) ∗ semVal (recvCell c (up k)) 0) ∗ Sf dst xin κ c) := by
  unfold landing landed
  by_cases h : on (rB c (dst c) k)
  · have hs := (sn_recv dst H c k).mpr h
    rw [ifOn_pos h, if_pos hs, if_pos hs]
    unfold waitRecvBody Sf
    simp only [Prog.lift, Prog.bind_op, Prog.bind_ret, Prog.pure_eq_ret]
    iintro ⟨⟨Hc, Hat⟩, #Hi, ⟨%W, HO⟩⟩
    iapply (run_wait_recv (sn dst) (pay dst xin) κ c (up k) (src := sChunk k) (dst := rChunk k) rfl hs W) $$ [Hc Hat HO]
    · isplitr; · iexact Hi
      isplitl [Hc]; · iexact Hc
      isplitl [HO]; · iexact HO
      iexact Hat
    iintro ⟨HO, Hf, H0⟩
    iapply (run_fin c)
    isplitr [HO]
    · isplitl [Hf]; · iexact Hf
      iexact H0
    isplitr; · iexact Hi
    iexact HO
  · have hs := fun h' => h ((sn_recv dst H c k).mp h')
    rw [ifOn_neg h, if_neg hs, if_neg hs]
    unfold Sf
    rw [Prog.pure_eq_ret, run_eq, wp_ret]
    iintro ⟨⟨Hf, Hat⟩, #Hi, HO⟩
    imod (rest_idle_recv (sn dst) (pay dst xin) κ c (up k) hs) $$ [Hat] with H0
    · isplitr; · iexact Hi
      iexact Hat
    imodintro
    isplitr [HO]
    · isplitl [Hf]; · iexact Hf
      iexact H0
    isplitr; · iexact Hi
    iexact HO

theorem landed_on (k : Fin 16) (h : sn dst (pr c) (up k) = true) :
    landed dst xin c (up k) ⊢ (owns (c : Thread nD τ) (rChunk k) fullShare (pay dst xin (pr c) k) : sProp 𝕄) := by
  unfold landed recvPay
  rw [if_pos h, rBuf_castLE]
  iintro ⟨%X, %hX, H⟩
  rw [show X = pay dst xin (pr c) k from hX k.isLt]
  iexact H

theorem landed_free (j : Fin 17) : landed dst xin c j ⊢ (free c (rBuf j) : sProp 𝕄) := by
  unfold landed recvPay
  split
  · iintro ⟨%X, -, H⟩
    iapply (free_intro c (rBuf j) X) $$ H
  · exact Entails.refl _

/-- The output chunk after the sum. -/
def osum (k : Fin 16) : sProp 𝕄 :=
  if on (kB c (dst c) k) then owns (c : Thread nD τ) (oChunk k) fullShare (outVec dst xin c k) else free c (oChunk k)

include H in
theorem add_step (k : Fin 16) :
    iprop(landed dst xin c (up k) ∗ okept dst xin c k)
      ⊢ run c (ifOn (Scalar.andi (rB c (dst c) k) (kB c (dst c) k)) (addBody k)) fun _ => iprop(landed dst xin c (up k) ∗ osum dst xin c k) := by
  unfold okept osum outVec
  by_cases hr : on (rB c (dst c) k)
  · have hs := (sn_recv dst H c k).mpr hr
    by_cases hk : on (kB c (dst c) k)
    · rw [ifOn_pos ((on_and _ _).mpr ⟨hr, hk⟩), if_pos hk, if_pos hk, if_pos hs, if_pos hk]
      unfold addBody
      simp only [Prog.lift, Prog.bind_op, Prog.bind_ret, Prog.pure_eq_ret]
      iintro ⟨Hl, Ho⟩
      ihave Hr := (landed_on dst xin c k hs) $$ Hl
      iapply (run_load c oM k _) $$ Ho
      iintro Ho
      iapply (run_load c rM k _) $$ Hr
      iintro Hr
      iapply (run_load c oM k _) $$ Ho
      iintro Ho
      iapply (run_store c oM k _ _) $$ Ho
      iintro Ho
      iapply (run_fin c)
      isplitl [Hr]
      · unfold landed recvPay
        rw [if_pos hs, rBuf_castLE]
        iexists _
        isplitr
        swap
        · iexact Hr
        ipureintro
        intro _; rfl
      rw [shapeCast_self]
      iexact Ho
    · rw [ifOn_neg (fun h => hk ((on_and _ _).mp h).2), if_neg hk, if_neg hk]
      exact run_ret (Entails.refl _)
  · have hs := fun h' => hr ((sn_recv dst H c k).mp h')
    rw [ifOn_neg (fun h => hr ((on_and _ _).mp h).1), if_neg hs]
    exact run_ret (Entails.refl _)

include H in
theorem copy_step (k : Fin 16) :
    iprop(landed dst xin c (up k) ∗ osum dst xin c k)
      ⊢ run c (ifOn (Scalar.andi (rB c (dst c) k) (Scalar.xori (kB c (dst c) k) 1#1)) (copyBody k)) fun _ =>
        iprop(free c (rBuf (up k)) ∗ owns (c : Thread nD τ) (oChunk k) fullShare (outVec dst xin c k)) := by
  unfold osum
  by_cases hk : on (kB c (dst c) k)
  · rw [ifOn_neg (fun h => ((on_and_not _ _).mp h).2 hk), if_pos hk]
    exact run_ret (sep_mono_left (landed_free dst xin c (up k)))
  · have hr : on (rB c (dst c) k) := by
      by_contra hr
      exact hk (kept_of_not_received _ _ _ _ hr)
    have hs := (sn_recv dst H c k).mpr hr
    rw [ifOn_pos ((on_and_not _ _).mpr ⟨hr, hk⟩), if_neg hk]
    unfold copyBody outVec free
    rw [if_pos hs, if_neg hk]
    simp only [Prog.lift, Prog.bind_op, Prog.bind_ret, Prog.pure_eq_ret]
    iintro ⟨Hl, ⟨%X, Ho⟩⟩
    ihave Hr := (landed_on dst xin c k hs) $$ Hl
    iapply (run_load c rM k _) $$ Hr
    iintro Hr
    iapply (run_load c oM k X) $$ Ho
    iintro Ho
    iapply (run_store c oM k X _) $$ Ho
    iintro Ho
    iapply (run_fin c)
    rw [rBuf_castLE]
    isplitl [Hr]; · iexists _; iexact Hr
    iexact Ho

/-- Chunk `k` before and after its finish. -/
def Fa (k : Fin 16) : sProp 𝕄 :=
  iprop((here dst c k (away dst c k) ∗ atPos ER (sendCell c (up k)) 0 ∅ 0) ∗ (landing dst c (up k) ∗ atPos ER (recvCell c (up k)) 0 ∅ 0)
    ∗ okept dst xin c k)
def Fb (k : Fin 16) : sProp 𝕄 :=
  iprop((here dst c k (free c (sChunk k)) ∗ semVal (sendCell c (up k)) 0) ∗ (free c (rBuf (up k)) ∗ semVal (recvCell c (up k)) 0)
    ∗ owns (c : Thread nD τ) (oChunk k) fullShare (outVec dst xin c k))

include H in
theorem fin_step (k : Fin 16) :
    iprop(Fa dst xin c k ∗ Sf dst xin κ c) ⊢ run c (finStep c (dst c) k) fun _ => iprop(Fb dst xin c k ∗ Sf dst xin κ c) := by
  rw [finStep_eq]
  unfold Fa Fb
  refine run_via iprop((landing dst c (up k) ∗ atPos ER (recvCell c (up k)) 0 ∅ 0) ∗ okept dst xin c k)
    (wait_send_step dst xin κ c k) ?_ ?_
  · iintro ⟨⟨H1, H2, H3⟩, H4⟩
    isplitl [H1 H4]; · isplitl [H1]; · iexact H1
                       iexact H4
    isplitl [H2]; · iexact H2
    iexact H3
  refine run_via iprop((here dst c k (free c (sChunk k)) ∗ semVal (sendCell c (up k)) 0) ∗ okept dst xin c k)
    (wait_recv_step dst xin H κ c k) ?_ ?_
  · iintro ⟨⟨H1, H4⟩, H2, H3⟩
    isplitl [H2 H4]; · isplitl [H2]; · iexact H2
                       iexact H4
    isplitl [H1]; · iexact H1
    iexact H3
  refine run_via iprop((here dst c k (free c (sChunk k)) ∗ semVal (sendCell c (up k)) 0) ∗ semVal (recvCell c (up k)) 0 ∗ Sf dst xin κ c)
    (add_step dst xin H c k) ?_ ?_
  · iintro ⟨⟨⟨H1, H2⟩, H3⟩, H4, H5⟩
    isplitl [H1 H5]; · isplitl [H1]; · iexact H1
                       iexact H5
    isplitl [H4]; · iexact H4
    isplitl [H2]; · iexact H2
    iexact H3
  refine BIBase.Entails.trans (run_frame iprop((here dst c k (free c (sChunk k)) ∗ semVal (sendCell c (up k)) 0)
      ∗ semVal (recvCell c (up k)) 0 ∗ Sf dst xin κ c)
    (copy_step dst xin H c k)) (run_mono fun _ => ?_)
  iintro ⟨⟨H1, H2⟩, H3, H4, H5⟩
  isplitr [H5]
  · isplitl [H3]; · iexact H3
    isplitl [H1 H4]; · isplitl [H1]; · iexact H1
                       iexact H4
    iexact H2
  iexact H5

/-- The empty exchange before and after its waits. -/
def Da : sProp 𝕄 :=
  iprop((held? (sn dst c 16) (cred (tallyAt (sendCell c 16) kx N)) ∗ atPos ER (sendCell c 16) 0 ∅ 0) ∗ (landing dst c 16 ∗ atPos ER (recvCell c 16) 0 ∅ 0))
def Db : sProp 𝕄 :=
  iprop((held? (sn dst c 16) (free c (sChunk 0)) ∗ semVal (sendCell c 16) 0) ∗ (free c (rBuf 16) ∗ semVal (recvCell c 16) 0))

include H in
theorem dummy_wait :
    iprop(Da dst c ∗ Sf dst xin κ c) ⊢ run c (ifOn (zB c (dst c)) dummyWaitBody) fun _ => iprop(Db dst c ∗ Sf dst xin κ c) := by
  unfold Da Db landing held?
  by_cases h : on (zB c (dst c))
  · have hs := (sn_last dst c).mpr h
    have hr := (sn_last_recv dst H c).mpr h
    rw [ifOn_pos h, if_pos hs, if_pos hs, if_pos hr]
    unfold dummyWaitBody Sf
    simp only [Prog.lift, Prog.bind_op, Prog.bind_ret, Prog.pure_eq_ret]
    iintro ⟨⟨⟨Hc, Hat⟩, ⟨Hcr, Hatr⟩⟩, #Hi, ⟨%W, HO⟩⟩
    iapply (run_wait_send (sn dst) (pay dst xin) κ c 16 (src := uM) (dst := sChunk 0) rfl hs W) $$ [Hc Hat HO]
    · isplitr; · iexact Hi
      isplitl [Hc]; · iexact Hc
      isplitl [HO]; · iexact HO
      iexact Hat
    rw [sBuf_last]
    iintro ⟨⟨%W', HO⟩, Hf, H0⟩
    iapply (run_wait_recv (sn dst) (pay dst xin) κ c 16 (src := sChunk 0) (dst := uM) rfl hr W') $$ [Hcr Hatr HO]
    · isplitr; · iexact Hi
      isplitl [Hcr]; · iexact Hcr
      isplitl [HO]; · iexact HO
      iexact Hatr
    iintro ⟨HO, Hp, H0r⟩
    iapply (run_fin c)
    unfold recvPay
    icases Hp with ⟨%X, -, Hp⟩
    isplitr [HO]
    · isplitl [Hf H0]
      · isplitl [Hf]; · iexact Hf
        iexact H0
      isplitl [Hp]; · iapply (free_intro c (rBuf 16) X) $$ Hp
      iexact H0r
    isplitr; · iexact Hi
    iexact HO
  · have hs := fun h' => h ((sn_last dst c).mp h')
    have hr := fun h' => h ((sn_last_recv dst H c).mp h')
    rw [ifOn_neg h, if_neg hs, if_neg hs, if_neg hr]
    unfold Sf
    rw [Prog.pure_eq_ret, run_eq, wp_ret]
    iintro ⟨⟨⟨-, Hat⟩, ⟨Hf, Hatr⟩⟩, #Hi, HO⟩
    imod (rest_idle_send (sn dst) (pay dst xin) κ c 16 hs) $$ [Hat] with H0
    · isplitr; · iexact Hi
      iexact Hat
    imod (rest_idle_recv (sn dst) (pay dst xin) κ c 16 hr) $$ [Hatr] with H0r
    · isplitr; · iexact Hi
      iexact Hatr
    imodintro
    isplitr [HO]
    · isplitl [H0]
      · isplitr
        · iempintro
        · iexact H0
      isplitl [Hf]; · iexact Hf
      iexact H0r
    isplitr; · iexact Hi
    iexact HO

end Run

end Cert.KernelIdeal.A2av

end
-- ==== Proof.Tail.lean ====
/- The steps in order, from what a device holds to the result in place. -/
module

public import proofs.«01_k».proof.Proof.Body

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

attribute [local irreducible] run finStep seqFin tail

section Run
variable (dst : Dev nD → Vec F S1x512 .i32) (xin : Dev nD → Vec F S512x256 .f32)
variable (H : ∀ c, nS c (dst c) = nS (pr c) (dst (pr c)))
variable (κ : GSem nD τ sig → ℕ) (c : Dev nD)

/-! ## All the steps -/

theorem split0 (Φ : Fin 16 → sProp 𝕄) :
    bigSep Finset.univ (fun k => here dst c k (Φ k)) = iprop(held? (!sn dst c 16) (Φ 0) ∗ bigSep Finset.univ fun i : Fin 15 => Φ i.succ) := by
  rw [bigSep_first]
  show iprop(held? (!(sn dst c 16 && ((0 : Fin 16) == 0))) (Φ 0) ∗ bigSep Finset.univ fun i : Fin 15 => held? (!(sn dst c 16 && (i.succ == 0))) (Φ i.succ)) = _
  rw [show ((0 : Fin 16) == 0) = true from rfl, Bool.and_true,
    show (fun i : Fin 15 => held? (!(sn dst c 16 && (i.succ == 0))) (Φ i.succ)) = fun i => Φ i.succ from funext fun i => by
      rw [show (i.succ == (0 : Fin 16)) = false from beq_eq_false_iff_ne.mpr (Fin.succ_ne_zero i), Bool.and_false]; rfl]

theorem take0 : away0 dst c ⊢ iprop(held? (!sn dst c 16) (away dst c 0) ∗ held? (sn dst c 16) (cred (tallyAt (sendCell c 16) kx N) : sProp 𝕄)) := by
  unfold away0 held?
  cases h : sn dst c 16
  · simp only [Bool.not_false, if_true, Bool.false_eq_true, if_false]
    iintro H
    isplitl [H]; · iexact H
    iempintro
  · simp only [Bool.not_true, if_true, Bool.false_eq_true, if_false]
    iintro H
    isplitr; · iempintro
    iexact H
theorem put0 (P : sProp 𝕄) : iprop(held? (!sn dst c 16) P ∗ held? (sn dst c 16) P) ⊢ P := by
  unfold held?
  cases h : sn dst c 16
  · simp only [Bool.not_false, if_true, Bool.false_eq_true, if_false]
    iintro ⟨H, -⟩
    iexact H
  · simp only [Bool.not_true, if_true, Bool.false_eq_true, if_false]
    iintro ⟨-, H⟩
    iexact H

theorem all_sends :
    iprop((bigSep Finset.univ (fun k : Fin 16 => free c (sChunk k)) ∗ bigSep Finset.univ (fun k : Fin 16 => T (sn dst) c (up k))) ∗ St dst xin κ c 0)
      ⊢ run c (seqFin 16 (fun k => ifOn (sB c (dst c) k) (sendBody (pr c) (posS c (dst c)) k))) fun _ =>
        iprop(bigSep Finset.univ (away dst c) ∗ St dst xin κ c 16) := by
  rw [← bigSep_sep']
  exact run_steps c 16 _ (fun k => iprop(free c (sChunk k) ∗ T (sn dst) c (up k))) _ (St dst xin κ c) (send_step dst xin κ c)

theorem all_keeps :
    iprop(bigSep Finset.univ (fun k : Fin 16 => free c (oChunk k)) ∗ xPts xin c)
      ⊢ run c (seqFin 16 (fun k => ifOn (kB c (dst c) k) (keepBody (posK c (dst c)) k))) fun _ =>
        iprop(bigSep Finset.univ (okept dst xin c) ∗ xPts xin c) :=
  run_steps c 16 _ (fun k => free c (oChunk k)) _ (fun _ => xPts xin c) (keep_step dst xin c)

include H in
theorem all_fins :
    iprop(((bigSep Finset.univ (fun k => here dst c k (away dst c k)) ∗ bigSep Finset.univ (fun k : Fin 16 => atPos ER (sendCell c (up k)) 0 ∅ 0))
      ∗ (bigSep Finset.univ (fun k : Fin 16 => landing dst c (up k)) ∗ bigSep Finset.univ (fun k : Fin 16 => atPos ER (recvCell c (up k)) 0 ∅ 0))
      ∗ bigSep Finset.univ (okept dst xin c)) ∗ Sf dst xin κ c)
      ⊢ run c (seqFin 16 (fun k => finStep c (dst c) k)) fun _ =>
        iprop(((bigSep Finset.univ (fun k => here dst c k (free c (sChunk k))) ∗ bigSep Finset.univ (fun k : Fin 16 => semVal (sendCell c (up k)) 0))
          ∗ (bigSep Finset.univ (fun k : Fin 16 => free c (rBuf (up k))) ∗ bigSep Finset.univ (fun k : Fin 16 => semVal (recvCell c (up k)) 0))
          ∗ bigSep Finset.univ (fun k => owns (c : Thread nD τ) (oChunk k) fullShare (outVec dst xin c k))) ∗ Sf dst xin κ c) := by
  have h := run_steps c 16 (fun k => finStep c (dst c) k) (Fa dst xin c) (Fb dst xin c) (fun _ => Sf dst xin κ c) (fin_step dst xin H κ c)
  rw [show Fa dst xin c = fun k => Fa dst xin c k from rfl, show Fb dst xin c = fun k => Fb dst xin c k from rfl] at h
  simp only [Fa, Fb, bigSep_sep'] at h
  exact h

/-- What the steps start from, and what they end with. -/
def tailPre : sProp 𝕄 :=
  iprop(shared dst xin κ c ∗ xPts xin c ∗ owing dst c 0 ∗ bigSep Finset.univ (fun k : Fin 16 => free c (sChunk k)) ∗ bigSep Finset.univ (fun j => T (sn dst) c j)
    ∗ bigSep Finset.univ (fun k : Fin 16 => free c (oChunk k)) ∗ bigSep Finset.univ (fun j : Fin 17 => atPos ER (sendCell c j) 0 ∅ 0)
    ∗ bigSep Finset.univ (fun j : Fin 17 => atPos ER (recvCell c j) 0 ∅ 0) ∗ bigSep Finset.univ (landing dst c))
def tailPost : sProp 𝕄 :=
  iprop(xPts xin c ∗ (∃ W, owes (c : Thread nD τ) (0 : CellTallies nD τ sig ℕ) W) ∗ bigSep Finset.univ (fun k : Fin 16 => free c (sChunk k))
    ∗ bigSep Finset.univ (fun j : Fin 17 => semVal (sendCell c j) 0) ∗ bigSep Finset.univ (fun j : Fin 17 => semVal (recvCell c j) 0)
    ∗ bigSep Finset.univ (fun j : Fin 17 => free c (rBuf j))
    ∗ bigSep Finset.univ (fun k => owns (c : Thread nD τ) (oChunk k) fullShare (outVec dst xin c k)))

include H in
theorem tail_run : tailPre dst xin κ c ⊢ run c (tail c (dst c) (pr c)) fun _ => tailPost dst xin c := by
  rw [tail_eq]
  unfold tailPre tailPost
  simp only [bigSep_last]
  refine run_via iprop(T (sn dst) c 16 ∗ bigSep Finset.univ (fun k : Fin 16 => free c (oChunk k))
      ∗ (atPos ER (sendCell c 16) 0 ∅ 0 ∗ bigSep Finset.univ (fun k : Fin 16 => atPos ER (sendCell c (up k)) 0 ∅ 0))
      ∗ (atPos ER (recvCell c 16) 0 ∅ 0 ∗ bigSep Finset.univ (fun k : Fin 16 => atPos ER (recvCell c (up k)) 0 ∅ 0))
      ∗ (landing dst c 16 ∗ bigSep Finset.univ (fun k : Fin 16 => landing dst c (up k))))
    (all_sends dst xin κ c) ?_ ?_
  · unfold St
    iintro ⟨Hi, Hx, HO, Hs, ⟨HT, HTs⟩, Ho, HS, HR, HL⟩
    isplitl [Hi Hx HO Hs HTs]
    · isplitl [Hs HTs]
      · isplitl [Hs]; · iexact Hs
        iexact HTs
      isplitl [Hi]; · iexact Hi
      isplitl [Hx]; · iexact Hx
      iexact HO
    isplitl [HT]; · iexact HT
    isplitl [Ho]; · iexact Ho
    isplitl [HS]; · iexact HS
    isplitl [HR]; · iexact HR
    iexact HL
  refine run_via iprop(bigSep Finset.univ (fun i : Fin 15 => away dst c i.succ) ∗ bigSep Finset.univ (fun k : Fin 16 => free c (oChunk k))
      ∗ (atPos ER (sendCell c 16) 0 ∅ 0 ∗ bigSep Finset.univ (fun k : Fin 16 => atPos ER (sendCell c (up k)) 0 ∅ 0))
      ∗ (atPos ER (recvCell c 16) 0 ∅ 0 ∗ bigSep Finset.univ (fun k : Fin 16 => atPos ER (recvCell c (up k)) 0 ∅ 0))
      ∗ (landing dst c 16 ∗ bigSep Finset.univ (fun k : Fin 16 => landing dst c (up k))))
    (dummy_step dst xin κ c) ?_ ?_
  · rw [bigSep_first (away dst c)]
    iintro ⟨⟨⟨Ha, Has⟩, HSt⟩, HT, Hr⟩
    icases Hr with ⟨Ho, HR⟩
    isplitl [Ha HT HSt]
    · isplitl [Ha HT]
      · isplitl [Ha]; · iexact Ha
        iexact HT
      iexact HSt
    isplitl [Has]; · iexact Has
    isplitl [Ho]; · iexact Ho
    iexact HR
  refine run_via iprop((shared dst xin κ c ∗ owing dst c 17) ∗ (bigSep Finset.univ (fun i : Fin 15 => away dst c i.succ) ∗ away0 dst c)
      ∗ (atPos ER (sendCell c 16) 0 ∅ 0 ∗ bigSep Finset.univ (fun k : Fin 16 => atPos ER (sendCell c (up k)) 0 ∅ 0))
      ∗ (atPos ER (recvCell c 16) 0 ∅ 0 ∗ bigSep Finset.univ (fun k : Fin 16 => atPos ER (recvCell c (up k)) 0 ∅ 0))
      ∗ (landing dst c 16 ∗ bigSep Finset.univ (fun k : Fin 16 => landing dst c (up k))))
    (all_keeps dst xin c) ?_ ?_
  · unfold St
    iintro ⟨⟨Ha0, ⟨Hi, Hx, HO⟩⟩, Has, Ho, HR⟩
    isplitl [Ho Hx]
    · isplitl [Ho]; · iexact Ho
      iexact Hx
    isplitl [Hi HO]
    · isplitl [Hi]; · iexact Hi
      iexact HO
    isplitl [Has Ha0]
    · isplitl [Has]; · iexact Has
      iexact Ha0
    iexact HR
  refine run_via iprop(xPts xin c ∗ ((held? (sn dst c 16) (cred (tallyAt (sendCell c 16) kx N)) ∗ atPos ER (sendCell c 16) 0 ∅ 0)
      ∗ (landing dst c 16 ∗ atPos ER (recvCell c 16) 0 ∅ 0)))
    (all_fins dst xin H κ c) ?_ ?_
  · unfold Sf owing
    rw [due_end, split0]
    iintro ⟨⟨Ho, Hx⟩, ⟨Hi, HO⟩, ⟨Has, Ha0⟩, ⟨HS, HSs⟩, ⟨HR, HRs⟩, ⟨HL, HLs⟩⟩
    ihave H0 := (take0 dst c) $$ Ha0
    icases H0 with ⟨H0, Hc⟩
    isplitr [Hx Hc HS HL HR]
    · isplitr [Hi HO]
      · isplitl [Has H0 HSs]
        · isplitl [Has H0]
          · isplitl [H0]; · iexact H0
            iexact Has
          iexact HSs
        isplitl [HLs HRs]
        · isplitl [HLs]; · iexact HLs
          iexact HRs
        iexact Ho
      isplitl [Hi]; · iexact Hi
      iexact HO
    isplitl [Hx]; · iexact Hx
    isplitl [Hc HS]
    · isplitl [Hc]; · iexact Hc
      iexact HS
    isplitl [HL]; · iexact HL
    iexact HR
  refine run_via iprop(xPts xin c ∗ (((bigSep Finset.univ (fun k => here dst c k (free c (sChunk k))) ∗ bigSep Finset.univ (fun k : Fin 16 => semVal (sendCell c (up k)) 0))
          ∗ (bigSep Finset.univ (fun k : Fin 16 => free c (rBuf (up k))) ∗ bigSep Finset.univ (fun k : Fin 16 => semVal (recvCell c (up k)) 0))
          ∗ bigSep Finset.univ (fun k => owns (c : Thread nD τ) (oChunk k) fullShare (outVec dst xin c k)))))
    (dummy_wait dst xin H κ c) ?_ ?_
  · unfold Da
    iintro ⟨⟨Hf, HS⟩, Hx, Hd⟩
    isplitl [Hd HS]
    · isplitl [Hd]; · iexact Hd
      iexact HS
    isplitl [Hx]; · iexact Hx
    iexact Hf
  refine run_ret ?_
  unfold Sf Db
  rw [split0, bigSep_first (fun k : Fin 16 => free c (sChunk k))]
  iintro ⟨⟨⟨⟨Hf, Hs⟩, Hr, Hrv⟩, -, HO⟩, Hx, ⟨⟨Hf0, Hfs⟩, Hss⟩, ⟨Hrs, Hrvs⟩, Ho⟩
  isplitl [Hx]; · iexact Hx
  isplitl [HO]; · iexact HO
  isplitl [Hf Hf0 Hfs]
  · isplitl [Hf Hf0]
    · iapply (put0 dst c (free c (sChunk 0)))
      isplitl [Hf0]; · iexact Hf0
      iexact Hf
    iexact Hfs
  isplitl [Hs Hss]
  · isplitl [Hs]; · iexact Hs
    iexact Hss
  isplitl [Hrv Hrvs]
  · isplitl [Hrv]; · iexact Hrv
    iexact Hrvs
  isplitl [Hr Hrs]
  · isplitl [Hr]; · iexact Hr
    iexact Hrs
  iexact Ho

end Run

end Cert.KernelIdeal.A2av

end
-- ==== Proof.Buffers.lean ====
/- A buffer of 512 rows as its sixteen chunks, and back. -/
module

public import proofs.«01_k».proof.Proof.Steps2
public import Idealize.ShloMosaic.Lib.ValueIdxCoords

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F]

local notation "𝕄" => MT nD τ sig ℕ (Elt F) ℕ UU ℕ

/-! ## The chunks tile the rows -/

theorem chunk_emb_row (k : Fin 16) (j : (chunk k).shape.Idx) : ((chunk k).emb j 0 : ℕ) = 32 * k.val + (j 0).val := by
  rw [Rect.emb_apply]
  show 32 * k.val + 1 * (j 0).val = _
  rw [Nat.one_mul]
theorem chunk_emb_col (k : Fin 16) (j : (chunk k).shape.Idx) : ((chunk k).emb j 1 : ℕ) = (j 1).val := by
  rw [Rect.emb_apply]
  show 0 + 1 * (j 1).val = _
  rw [Nat.one_mul, Nat.zero_add]

theorem mem_chunk (k : Fin 16) (i : S512x256.Idx) : i ∈ (chunk k).set ↔ (i 0).val / 32 = k.val := by
  rw [Rect.mem_set_unit, Fin.forall_fin_two]
  have h1 : (i 1).val < 256 := (i 1).isLt
  show (32 * k.val ≤ (i 0).val ∧ (i 0).val < 32 * k.val + 32) ∧ (0 ≤ (i 1).val ∧ (i 1).val < 0 + 256) ↔ _
  omega

theorem chunk_disjoint (k k' : Fin 16) (h : k ≠ k') : Disjoint (chunk k).set (chunk k').set := by
  rw [Finset.disjoint_left]
  intro i hi hi'
  rw [mem_chunk] at hi hi'
  exact h (Fin.ext (hi.symm.trans hi'))

/-- The chunk of a row. -/
def chunkOf (i : S512x256.Idx) : Fin 16 := ⟨(i 0).val / 32, by have : (i 0).val < 512 := (i 0).isLt; omega⟩
/-- Where it lies in its chunk. -/
def within (i : S512x256.Idx) : S32x256.Idx := ix2 (⟨(i 0).val % 32, Nat.mod_lt _ (by decide)⟩ : Fin (S32x256.size 0)) (⟨(i 1).val, (i 1).isLt⟩ : Fin (S32x256.size 1))

theorem chunk_cover : (Finset.univ : Finset (Fin 16)).biUnion (fun k => (chunk k).set) = Finset.univ := by
  ext i
  simp only [Finset.mem_biUnion, Finset.mem_univ, true_and, iff_true]
  exact ⟨chunkOf i, (mem_chunk _ _).mpr rfl⟩

/-- Sixteen chunks side by side. -/
def glue (v : Fin 16 → Vec F S32x256 .f32) : Vec F S512x256 .f32 := fun i => v (chunkOf i) (within i)

theorem chunkOf_emb (k : Fin 16) (j : (chunk k).shape.Idx) : chunkOf ((chunk k).emb j) = k := by
  have h : (j 0).val < 32 := (j 0).isLt
  apply Fin.ext
  show ((chunk k).emb j 0 : ℕ) / 32 = k.val
  rw [chunk_emb_row]
  omega
theorem within_emb (k : Fin 16) (j : (chunk k).shape.Idx) : within ((chunk k).emb j) = j := by
  have h : (j 0).val < 32 := (j 0).isLt
  funext a
  apply Fin.ext
  revert a
  rw [Fin.forall_fin_two]
  constructor
  · show ((chunk k).emb j 0 : ℕ) % 32 = (j 0).val
    rw [chunk_emb_row]
    omega
  · exact chunk_emb_col k j
theorem glue_emb (v : Fin 16 → Vec F S32x256 .f32) (k : Fin 16) : (fun j => glue v ((chunk k).emb j)) = v k := by
  funext j
  unfold glue
  rw [chunkOf_emb, within_emb]

/-! ## Owning the whole, and owning the chunks -/

section Own
variable (c : Dev nD) (M : Memref sig .tc .vmem S512x256 .f32)

theorem cut (X : Vec F S512x256 .f32) :
    (owns (c : Thread nD τ) M fullShare X : sProp 𝕄) ⊢ bigSep Finset.univ fun k : Fin 16 => free c (M.slice (chunk k) (fun _ => rfl)) :=
  (owns_rects (c : Thread nD τ) M fullShare chunk (fun _ _ => rfl) chunk_disjoint chunk_cover X).trans
    (bigSep_mono fun k _ => free_intro c _ _)

variable [∀ e, Nonempty (Elt F e)]

theorem join (v : Fin 16 → Vec F S32x256 .f32) :
    bigSep Finset.univ (fun k : Fin 16 => owns (c : Thread nD τ) (M.slice (chunk k) (fun _ => rfl)) fullShare (v k))
      ⊢ (owns (c : Thread nD τ) M fullShare (glue v) : sProp 𝕄) := by
  refine BIBase.Entails.trans (Entails.of_eq ?_) (owns_of_rects (c : Thread nD τ) M fullShare chunk (fun _ _ => rfl) chunk_disjoint chunk_cover (glue v))
  exact bigSep_congr fun k _ => by rw [glue_emb]

theorem join_free :
    bigSep Finset.univ (fun k : Fin 16 => free c (M.slice (chunk k) (fun _ => rfl)))
      ⊢ (iprop(∃ X, owns (c : Thread nD τ) M fullShare X) : sProp 𝕄) := by
  unfold free
  refine BIBase.Entails.trans (bigSep_exists_pi Finset.univ _) ?_
  iintro ⟨%v, H⟩
  iexists glue v
  iapply (join c M v) $$ H

end Own

end Cert.KernelIdeal.A2av

end
-- ==== Proof.BodyRun.lean ====
/- The whole body run at any device: the barrier, the destinations read, and the steps. -/
module

public import proofs.«01_k».proof.Proof.Tail
public import proofs.«01_k».proof.Proof.Buffers

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

attribute [local irreducible] run finStep seqFin tail

section Run
variable (dst : Dev nD → Vec F S1x512 .i32) (xin : Dev nD → Vec F S512x256 .f32)
variable (H : ∀ c, nS c (dst c) = nS (pr c) (dst (pr c)))
variable (κ : GSem nD τ sig → ℕ) (c : Dev nD)

/-- The result of a device. -/
def outF : Vec F S512x256 .f32 := glue (outVec dst xin c)

/-- A buffer of the body, at contents not chosen. -/
def some_ {s : Shape} (M : Memref sig .tc .vmem s .f32) : sProp 𝕄 := iprop(∃ X, owns (c : Thread nD τ) M fullShare X)

/-- One transfer's rights, the semaphores it uses opened. -/
def rights (j : Fin 17) : sProp 𝕄 :=
  iprop(atPos ER (sendCell c j) 0 ∅ 0 ∗ atPos ER (recvCell c j) 0 ∅ 0 ∗ dutyTok ER (sendCell c j) 0 () ∗ dutyTok ER (recvCell (pr c) j) 0 ()
    ∗ reached ER (sendCell c j) 0 ∗ reached ER (recvCell c j) 0)

/-- The state of the exchange a device starts with. -/
def opened : sProp 𝕄 :=
  iprop(shared dst xin κ c ∗ atPos ER (barCell c) 0 ∅ 0 ∗ dutyTok ER (barCell (pr c)) 0 () ∗ reached ER (barCell (pr c)) 0
    ∗ bigSep Finset.univ (rights (F := F) c))

/-- The arrivals it may wait for. -/
def creds (c : Dev nD) : sProp 𝕄 :=
  iprop(cred (tallyAt (barCell c) kx 1) ∗ bigSep Finset.univ fun j : Fin 17 => held? (sn dst (pr c) j) (cred (tallyAt (recvCell c j) kx N)))

abbrev dPts : sProp 𝕄 := ((c : Thread nD τ).loc cc0_stg0_0) ↦{fullShare} dst c

/-- Every semaphore of the exchange but the barrier, at rest. -/
def rested (c : Dev nD) : sProp 𝕄 :=
  iprop(bigSep Finset.univ (fun j : Fin 17 => semVal (sendCell c j) 0) ∗ bigSep Finset.univ (fun j : Fin 17 => semVal (recvCell c j) 0))

def bodyPre (W : Waits sig ℕ) : sProp 𝕄 :=
  iprop(opened dst xin κ c ∗ creds dst c ∗ levAts L lv ∗ dPts dst c ∗ xPts xin c ∗ some_ c oM ∗ some_ c sM ∗ some_ c rM ∗ some_ c uM
    ∗ owes (c : Thread nD τ) (O₀ (sn dst) c) W)
def bodyPost : sProp 𝕄 :=
  iprop(semVal (barCell c) 0 ∗ dPts dst c ∗ xPts xin c ∗ owns (c : Thread nD τ) oM fullShare (outF dst xin c) ∗ some_ c sM ∗ some_ c rM ∗ some_ c uM
    ∗ rested c ∗ ∃ W, owes (c : Thread nD τ) (0 : CellTallies nD τ sig ℕ) W)

/-! ## The barrier -/

/-- What a device hands over with the other's barrier, and what it keeps of its landing buffers. -/
theorem hand (j : Fin 17) :
    iprop(free c (rBuf j) ∗ held? (sn dst (pr c) j) (cred (tallyAt (recvCell c j) kx N)) ∗ reached ER (recvCell c j) 0)
      ⊢ iprop(held? (sn dst (pr c) j) iprop(free c (rBuf j) ∗ reached ER (recvCell c j) 0) ∗ (landing dst c j : sProp 𝕄)) := by
  unfold held? landing
  by_cases h : sn dst (pr c) j = true
  · rw [if_pos h, if_pos h, if_pos h]
    iintro ⟨Hf, Hc, Hr⟩
    isplitr [Hc]
    · isplitl [Hf]; · iexact Hf
      iexact Hr
    iexact Hc
  · rw [if_neg h, if_neg h, if_neg h]
    iintro ⟨Hf, -, -⟩
    isplitr; · iempintro
    iexact Hf

theorem hand_all :
    iprop(bigSep Finset.univ (fun j : Fin 17 => free c (rBuf j)) ∗ bigSep Finset.univ (fun j : Fin 17 => held? (sn dst (pr c) j) (cred (tallyAt (recvCell c j) kx N)))
        ∗ bigSep Finset.univ (fun j : Fin 17 => reached ER (recvCell c j) 0))
      ⊢ iprop(barPay (sn dst) (pr c) ∗ bigSep Finset.univ (landing (F := F) dst c)) := by
  unfold barPay
  rw [pr_pr]
  simp only [← bigSep_sep']
  exact bigSep_mono fun j _ => hand dst c j

theorem signal_run (W : Waits sig ℕ) {Q : PUnit → sProp 𝕄} {k : PUnit → Pg F} :
    iprop(shared dst xin κ c ∗ owes (c : Thread nD τ) (O₀ (sn dst) c) W ∗ dutyTok ER (barCell (pr c)) 0 () ∗ barPay (sn dst) (pr c) ∗ reached ER (barCell (pr c)) 0)
      ⊢ iprop((owes (c : Thread nD τ) (due (sn dst) c 0) W -∗ run c (k ⟨⟩) Q)
        -∗ run c (.op (.semSignal (pr c : Thread nD τ) barrier0 1) k) Q) := by
  rw [run_eq, run_eq]
  unfold shared invs
  iintro ⟨⟨-, #HIb, -⟩, HO, Ht, Hp, Hr⟩ Hk
  iapply (Rounds.wp_signal 𝒱₀ ER (Rd (sn dst) (pay dst xin)) (c : Thread nD τ) none (dst := (pr c : Thread nD τ)) (sem := barrier0) (r := 0) (d := ()) (κ := κ (barCell (pr c)))
      (by rw [duties_bar]; exact Finset.mem_singleton_self _) (amount_bar (sn dst) (pay dst xin) (pr c) ()) kx (due (sn dst) c 0) rfl)
    $$ [HO Ht Hp Hr]
  · isplitr; · iexact HIb
    isplitl [HO]; · iexact HO
    isplitl [Ht]; · iexact Ht
    isplitl [Hp]; · rw [payload_bar]; iexact Hp
    iexact Hr
  iexact Hk

theorem wait_run (W : Waits sig ℕ) {Q : PUnit → sProp 𝕄} {k : PUnit → Pg F} :
    iprop(shared dst xin κ c ∗ levAts L lv ∗ cred (tallyAt (barCell c) kx 1) ∗ owes (c : Thread nD τ) (due (sn dst) c 0) W ∗ atPos ER (barCell c) 0 ∅ 0)
      ⊢ iprop((((∃ W, owes (c : Thread nD τ) (due (sn dst) c 0) W) ∗ barPay (sn dst) c ∗ semVal (barCell c) 0) -∗ run c (k ⟨⟩) Q)
        -∗ run c (.op (.semWait barrier0 1) k) Q) := by
  rw [run_eq, run_eq]
  unfold shared invs
  iintro ⟨⟨#HIb, -, -⟩, #Hlev, Hc, HO, Hat⟩ Hk
  iapply (Rounds.wp_wait_rest_token 𝒱₀ ER (Rd (sn dst) (pay dst xin)) (c : Thread nD τ) none (κ := κ (barCell c))
      (wpE_semWait_eq 𝒱₀ (c : Thread nD τ) none Set.univ) (Set.mem_univ _) kx (O := due (sn dst) c 0) (W := W) (R := 0) (m := 0) (T := ∅)
      ((Nat.zero_add 1).trans (expect_bar (sn dst) (pay dst xin) c).symm)) $$ [Hc HO Hat]
  · isplitr; · iexact HIb
    isplitl [Hc]; · iexact Hc
    isplitl [HO]; · iexact HO
    isplitr; · iapply (mayWait_bar (sn dst) c); iexact Hlev
    iexact Hat
  iintro ⟨HO, Hat, -, Hp⟩
  imod (Rounds.cell_close ER (Rd (sn dst) (pay dst xin)) (Set.mem_univ (κ (barCell c))) id (R := 0 + 1) (duties_later (sn dst) (pay dst xin) (barCell c))) $$ [Hat] with H0
  · isplitr; · iexact HIb
    iexact Hat
  iapply Hk
  isplitl [HO]; · iexists _; iexact HO
  isplitl [Hp]; · iapply (Entails.of_eq (rest_bar (sn dst) (pay dst xin) c)) $$ Hp
  iexact H0

/-! ## The body -/

/-- What is left to make transfer `j` once the other device's buffers are handed over. -/
theorem rights_T : iprop(bigSep Finset.univ (fun j : Fin 17 => dutyTok ER (sendCell c j) 0 ()) ∗ bigSep Finset.univ (fun j : Fin 17 => dutyTok ER (recvCell (pr c) j) 0 ())
      ∗ bigSep Finset.univ (fun j : Fin 17 => reached ER (sendCell c j) 0) ∗ barPay (sn dst) c)
    = (bigSep Finset.univ fun j => (T (sn dst) c j : sProp 𝕄)) := by
  unfold T barPay
  simp only [bigSep_sep']

theorem rights_all : (bigSep Finset.univ (rights (F := F) c) : sProp 𝕄)
    = iprop(bigSep Finset.univ (fun j : Fin 17 => atPos ER (sendCell c j) 0 ∅ 0) ∗ bigSep Finset.univ (fun j : Fin 17 => atPos ER (recvCell c j) 0 ∅ 0)
      ∗ bigSep Finset.univ (fun j : Fin 17 => dutyTok ER (sendCell c j) 0 ()) ∗ bigSep Finset.univ (fun j : Fin 17 => dutyTok ER (recvCell (pr c) j) 0 ())
      ∗ bigSep Finset.univ (fun j : Fin 17 => reached ER (sendCell c j) 0) ∗ bigSep Finset.univ (fun j : Fin 17 => reached ER (recvCell c j) 0)) := by
  show (bigSep Finset.univ (fun j => rights (F := F) c j) : sProp 𝕄) = _
  simp only [rights, bigSep_sep']

theorem run_device {Q : PUnit → sProp 𝕄} (k : Dev nD → Pg F) : run c (.op .deviceId k) Q = run c (k c) Q := by
  rw [run_eq, run_eq, wp_deviceId]

variable [∀ e, Nonempty (Elt F e)]

include H in
theorem body_run (W : Waits sig ℕ) :
    bodyPre dst xin κ c W
      ⊢ run c (cc0_body (F := F) dM (Memref.isWhole_whole _) xM (Memref.isWhole_whole _) oM (Memref.isWhole_whole _) sM (Memref.isWhole_whole _)
        rM (Memref.isWhole_whole _) uM (Memref.isWhole_whole _) cc0_scratch3 cc0_scratch4) fun _ => bodyPost dst xin c := by
  rw [body_eq]
  simp only [semSignalWord, semWaitWord, Prog.lift, Prog.bind_op, Prog.bind_ret, Prog.pure_eq_ret, Prog.bind_assoc]
  rw [run_device]
  unfold bodyPre opened creds some_
  rw [rights_all]
  iintro ⟨⟨#Hi, Hat, Ht, Hrb, HaS, HaR, HtS, HtR, HrS, HrR⟩, ⟨Hcb, Hcr⟩, Hlev, Hd, Hx, ⟨%Xo, Ho⟩, ⟨%Xs, Hs⟩, ⟨%Xr, Hr⟩, Hu, HO⟩
  ihave Hoc := (cut c oM Xo) $$ Ho
  ihave Hsc := (cut c sM Xs) $$ Hs
  ihave Hrc := (cut c rM Xr) $$ Hr
  ihave Hh := (hand_all dst c) $$ [Hrc Hu Hcr HrR]
  · isplitl [Hrc Hu]
    · rw [bigSep_last (fun j : Fin 17 => free c (rBuf j))]
      simp only [rBuf_castLE, rBuf_last]
      isplitl [Hu]; · unfold free; iexact Hu
      iexact Hrc
    isplitl [Hcr]; · iexact Hcr
    iexact HrR
  icases Hh with ⟨Hp, HL⟩
  iapply (signal_run dst xin κ c W) $$ [HO Ht Hp Hrb]
  · isplitr; · iexact Hi
    isplitl [HO]; · iexact HO
    isplitl [Ht]; · iexact Ht
    isplitl [Hp]; · iexact Hp
    iexact Hrb
  iintro HO
  iapply (wait_run dst xin κ c W) $$ [Hlev Hcb HO Hat]
  · isplitr; · iexact Hi
    isplitl [Hlev]; · iexact Hlev
    isplitl [Hcb]; · iexact Hcb
    isplitl [HO]; · iexact HO
    iexact Hat
  iintro ⟨HO, Hp, H0⟩
  iapply (run_load_d c (dst c)) $$ Hd
  iintro Hd
  have htail := (run_frame iprop(dPts dst c ∗ semVal (barCell c) 0) (tail_run dst xin H κ c))
  have hpost : iprop(tailPost dst xin c ∗ dPts dst c ∗ semVal (barCell c) 0) ⊢ bodyPost dst xin c := by
    unfold tailPost bodyPost rested some_
    rw [bigSep_last (fun j : Fin 17 => free c (rBuf j))]
    simp only [rBuf_castLE, rBuf_last]
    iintro ⟨⟨Hx, HO, Hs, HS, HR, ⟨Hu, Hr⟩, Ho⟩, Hd, H0⟩
    ihave Ho := (join c oM (outVec dst xin c)) $$ Ho
    ihave Hs := (join_free c sM) $$ Hs
    ihave Hr := (join_free c rM) $$ Hr
    isplitl [H0]; · iexact H0
    isplitl [Hd]; · iexact Hd
    isplitl [Hx]; · iexact Hx
    isplitl [Ho]; · iexact Ho
    isplitl [Hs]; · iexact Hs
    isplitl [Hr]; · iexact Hr
    isplitl [Hu]; · unfold free; iexact Hu
    isplitl [HS HR]
    · isplitl [HS]; · iexact HS
      iexact HR
    iexact HO
  iapply (htail.trans (run_mono (Q' := fun _ => bodyPost dst xin c) fun _ => hpost))
  unfold tailPre
  rw [← rights_T]
  isplitr [Hd H0]
  · isplitr; · iexact Hi
    isplitl [Hx]; · iexact Hx
    isplitl [HO]; · iexact HO
    isplitl [Hsc]; · iexact Hsc
    isplitl [HtS HtR HrS Hp]
    · isplitl [HtS]; · iexact HtS
      isplitl [HtR]; · iexact HtR
      isplitl [HrS]; · iexact HrS
      iexact Hp
    isplitl [Hoc]; · iexact Hoc
    isplitl [HaS]; · iexact HaS
    isplitl [HaR]; · iexact HaR
    iexact HL
  isplitl [Hd]; · iexact Hd
  iexact H0

end Run

end Cert.KernelIdeal.A2av

end
-- ==== Proof.Ghost.lean ====
/- What the launch makes for the exchange: an invariant on every semaphore, the barriers' opened and the others' left to be
   opened by their devices; one token for each raise, given to the device that makes it; and the credit for the arrivals. -/
module

public import proofs.«01_k».proof.Proof.BodyRun
public import Idealize.ShloMosaic.Lib.Rounds.Family
public import Idealize.ShloMosaic.Lib.Pipeline.Launch

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The semaphores -/

/-- The kernel's own semaphores: the senders' and the receivers'. -/
abbrev osem (k : Fin 17 ⊕ Fin 17) : SemLoc sig := .dma (k.elim sSem rSem)

theorem osem_val (k : Fin 17 ⊕ Fin 17) : (k.elim sSem rSem).val = k.elim (fun j => 8 + j.val) (fun j => 25 + j.val) := by
  cases k with
  | inl j => exact sSem_val j
  | inr j => exact rSem_val j

theorem osem_inj : Function.Injective osem := fun k k' h => by
  have h : k.elim sSem rSem = k'.elim sSem rSem := by injection h
  have h := congrArg Fin.val h
  rw [osem_val, osem_val] at h
  rcases k with ⟨j, hj⟩ | ⟨j, hj⟩ <;> rcases k' with ⟨j', hj'⟩ | ⟨j', hj'⟩ <;> dsimp only [Sum.elim_inl, Sum.elim_inr] at h
  · exact congrArg Sum.inl (Fin.ext (by dsimp only; omega))
  · omega
  · omega
  · exact congrArg Sum.inr (Fin.ext (by dsimp only; omega))

theorem dev_of_cell {c c' : Dev nD} {a b : SemLoc sig} (h : ((c : Thread nD τ), a) = ((c' : Thread nD τ), b)) : c = c' :=
  congrArg (fun g : GSem nD τ sig => g.1.1) h

def barEmb : Dev nD ↪ GSem nD τ sig := ⟨fun c => barCell c, fun _ _ h => dev_of_cell h⟩
def ownEmb : Dev nD × (Fin 17 ⊕ Fin 17) ↪ GSem nD τ sig :=
  ⟨fun p => ((p.1 : Thread nD τ), osem p.2), fun _ _ h => Prod.ext (dev_of_cell h) (osem_inj (congrArg Prod.snd h))⟩

abbrev barCells : Finset (GSem nD τ sig) := Finset.univ.map barEmb
abbrev ownCells : Finset (GSem nD τ sig) := Finset.univ.map ownEmb
abbrev allCells : Finset (GSem nD τ sig) := barCells ∪ ownCells

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  have h : osem p.2 = .reg barrier0 := congrArg Prod.snd h
  cases h

theorem bar_mem (c : Dev nD) : barCell c ∈ allCells := Finset.mem_union_left _ (Finset.mem_map_of_mem barEmb (Finset.mem_univ c))
theorem send_mem (c : Dev nD) (j : Fin 17) : sendCell c j ∈ allCells :=
  Finset.mem_union_right _ (Finset.mem_map_of_mem ownEmb (Finset.mem_univ (c, Sum.inl j)))
theorem recv_mem (c : Dev nD) (j : Fin 17) : recvCell c j ∈ allCells :=
  Finset.mem_union_right _ (Finset.mem_map_of_mem ownEmb (Finset.mem_univ (c, Sum.inr j)))

/-- One raise of each. -/
def allToks : Finset (GSem nD τ sig × ℕ × Unit) := allCells.map ⟨fun g => (g, 0, ()), fun _ _ h => congrArg Prod.fst h⟩

/-- Over the own semaphores of every device. -/
theorem over_own (Φ : GSem nD τ sig → sProp 𝕄) :
    bigSep ownCells Φ = bigSep Finset.univ fun c : Dev nD =>
      iprop(bigSep Finset.univ (fun j : Fin 17 => Φ (sendCell c j)) ∗ bigSep Finset.univ (fun j : Fin 17 => Φ (recvCell c j))) := by
  rw [bigSep_map, bigSep_univ_prod]
  exact bigSep_congr fun c _ => bigSep_univ_sum _
theorem over_bar (Φ : GSem nD τ sig → sProp 𝕄) : bigSep barCells Φ = bigSep Finset.univ fun c : Dev nD => Φ (barCell c) :=
  bigSep_map barEmb

theorem ownSems_eq (c : Dev nD) : (Pipeline.ownSems0 (Ix := ℕ) (Name := ℕ) (U := UU) (Lvl := ℕ) (Val := Elt F) (τ := τ) osem c : sProp 𝕄) = rested c := by
  unfold Pipeline.ownSems0 rested
  exact bigSep_univ_sum _

/-! ## What each device is given -/

section Ghost
variable (dst : Dev nD → Vec F S1x512 .i32) (xin : Dev nD → Vec F S512x256 .f32)
variable (κ : GSem nD τ sig → ℕ) (c : Dev nD)

/-- The rights to open device `c`'s own semaphores. -/
def openers : sProp 𝕄 :=
  iprop(bigSep Finset.univ (fun j : Fin 17 => openTok ER (sendCell c j)) ∗ bigSep Finset.univ (fun j : Fin 17 => openTok ER (recvCell c j)))
/-- The tokens of the raises it makes. -/
def tokens : sProp 𝕄 :=
  iprop(dutyTok ER (barCell (pr c)) 0 () ∗ bigSep Finset.univ (fun j : Fin 17 => dutyTok ER (sendCell c j) 0 ())
    ∗ bigSep Finset.univ (fun j : Fin 17 => dutyTok ER (recvCell (pr c) j) 0 ()))
def linear : sProp 𝕄 := iprop(atPos ER (barCell c) 0 ∅ 0 ∗ openers c ∗ tokens c)

/-- What every device may consult. -/
def records : sProp 𝕄 :=
  iprop((bigSep allCells fun g => inv (sn dst) (pay dst xin) κ g) ∗ bigSep barCells fun g => reached ER g 0)
instance records_persistent : BI.Persistent (records dst xin κ) := by unfold records; infer_instance

theorem record (g : GSem nD τ sig) (hg : g ∈ allCells) :
    (bigSep allCells fun g => (inv (sn dst) (pay dst xin) κ g : sProp 𝕄)) ⊢ inv (sn dst) (pay dst xin) κ g := bigSep_elim hg

theorem records_shared : (bigSep allCells fun g => (inv (sn dst) (pay dst xin) κ g : sProp 𝕄)) ⊢ shared dst xin κ c := by
  unfold shared invs
  iintro #H
  isplitr; · iapply (record dst xin κ _ (bar_mem c)); iexact H
  isplitr; · iapply (record dst xin κ _ (bar_mem (pr c))); iexact H
  ihave #H' := (show (bigSep allCells fun g => (inv (sn dst) (pay dst xin) κ g : sProp 𝕄)) ⊢ (bigSep Finset.univ fun j : Fin 17 =>
      iprop(inv (sn dst) (pay dst xin) κ (sendCell c j) ∗ inv (sn dst) (pay dst xin) κ (recvCell c j) ∗ inv (sn dst) (pay dst xin) κ (recvCell (pr c) j)) : sProp 𝕄) from
    bigSep_intro_persistent fun j _ => by
      iintro #H
      isplitr; · iapply (record dst xin κ _ (send_mem c j)); iexact H
      isplitr; · iapply (record dst xin κ _ (recv_mem c j)); iexact H
      iapply (record dst xin κ _ (recv_mem (pr c) j)); iexact H) $$ H
  iexact H'

/-- What device `c` enters with, its own semaphores not opened. -/
def closed : sProp 𝕄 := iprop(shared dst xin κ c ∗ reached ER (barCell (pr c)) 0 ∗ linear c)

theorem closed_intro : iprop(records dst xin κ ∗ linear c) ⊢ closed dst xin κ c := by
  unfold closed records
  iintro ⟨⟨#HI, #HR⟩, Hl⟩
  isplitr; · iapply (records_shared dst xin κ c); iexact HI
  isplitr
  · iapply (show (bigSep barCells fun g => reached ER g 0 : sProp 𝕄) ⊢ reached ER (barCell (pr c)) 0 from
      bigSep_elim (Finset.mem_map_of_mem barEmb (Finset.mem_univ (pr c)))); iexact HR
  iexact Hl

/-- Seventeen semaphores opened. -/
theorem open_fam (gs : Fin 17 → GSem nD τ sig) :
    iprop((bigSep Finset.univ fun j => inv (sn dst) (pay dst xin) κ (gs j)) ∗ (bigSep Finset.univ fun j => openTok ER (gs j))
        ∗ bigSep Finset.univ fun j => semVal (gs j) 0)
      ⊢ (|={Set.univ}=> iprop((bigSep Finset.univ fun j => atPos ER (gs j) 0 ∅ 0) ∗ bigSep Finset.univ fun j => reached ER (gs j) 0) : sProp 𝕄) := by
  have h := Rounds.cells_open (Es := Set.univ) (Ix := ℕ) (U := UU) (Lvl := ℕ) (Val := Elt F) ER (Rd (sn dst) (pay dst xin)) Finset.univ gs (fun j => κ (gs j)) (fun _ _ => Set.mem_univ _)
  rw [bigSep_sep', bigSep_sep'] at h
  exact BIBase.Entails.trans sep_assoc' h

/-- The invariants over the devices' own semaphores. -/
theorem shared_own : shared dst xin κ c ⊢ (iprop((bigSep Finset.univ fun j : Fin 17 => inv (sn dst) (pay dst xin) κ (sendCell c j))
    ∗ bigSep Finset.univ fun j : Fin 17 => inv (sn dst) (pay dst xin) κ (recvCell c j)) : sProp 𝕄) := by
  unfold shared invs
  rw [bigSep_sep', bigSep_sep']
  iintro ⟨-, -, HS, HR, -⟩
  isplitl [HS]; · iexact HS
  iexact HR

/-- The own semaphores opened. -/
theorem open_all : iprop(closed dst xin κ c ∗ rested c) ⊢ (|={Set.univ}=> opened dst xin κ c : sProp 𝕄) := by
  unfold closed linear openers tokens rested opened
  rw [rights_all]
  iintro ⟨⟨#Hi, #Hrb, Hat, ⟨HoS, HoR⟩, HtB, HtS, HtR⟩, HvS, HvR⟩
  ihave #Hsr := (shared_own dst xin κ c) $$ Hi
  icases Hsr with ⟨#HS, #HR⟩
  imod (open_fam dst xin κ fun j => sendCell c j) $$ [HoS HvS] with ⟨HaS, HrS⟩
  · isplitr; · iexact HS
    isplitl [HoS]; · iexact HoS
    iexact HvS
  imod (open_fam dst xin κ fun j => recvCell c j) $$ [HoR HvR] with ⟨HaR, HrR⟩
  · isplitr; · iexact HR
    isplitl [HoR]; · iexact HoR
    iexact HvR
  imodintro
  isplitr; · iexact Hi
  isplitl [Hat]; · iexact Hat
  isplitl [HtB]; · iexact HtB
  isplitr; · iexact Hrb
  isplitl [HaS]; · iexact HaS
  isplitl [HaR]; · iexact HaR
  isplitl [HtS]; · iexact HtS
  isplitl [HtR]; · iexact HtR
  isplitl [HrS]; · iexact HrS
  iexact HrR

/-- The tokens as made are those the devices use: a device's barrier and arrivals are raised by the other. -/
theorem tokens_around :
    (bigSep allToks fun x => (dutyTok ER x.1 x.2.1 x.2.2 : sProp 𝕄)) ⊢ bigSep Finset.univ fun c : Dev nD => tokens c := by
  unfold allToks tokens
  rw [bigSep_map, bigSep_union cells_disjoint]
  show iprop(bigSep barCells (fun g => (dutyTok ER g 0 () : sProp 𝕄)) ∗ bigSep ownCells fun g => (dutyTok ER g 0 () : sProp 𝕄)) ⊢ _
  rw [over_bar fun g => (dutyTok ER g 0 () : sProp 𝕄), over_own fun g => (dutyTok ER g 0 () : sProp 𝕄)]
  simp only [bigSep_sep']
  rw [bigSep_univ_equiv ⟨pr, pr, pr_pr, pr_pr⟩ (fun c : Dev nD => (dutyTok ER (barCell c) 0 () : sProp 𝕄)),
    bigSep_univ_equiv ⟨pr, pr, pr_pr, pr_pr⟩ (fun c : Dev nD => (bigSep Finset.univ fun j : Fin 17 => dutyTok ER (recvCell c j) 0 () : sProp 𝕄))]
  exact BI.Entails.refl _

/-! ## The credit -/

theorem pr_eq_comm (d c : Dev nD) : c = pr d ↔ d = pr c := ⟨fun h => by rw [h, pr_pr], fun h => by rw [h, pr_pr]⟩

theorem recv_inj {c c' : Dev nD} {i j : Fin 17} : recvCell c j = recvCell c' i ↔ c = c' ∧ j = i :=
  ⟨fun h => ⟨dev_of_cell h, by
    have h : osem (.inr j) = osem (.inr i) := congrArg Prod.snd h
    have h := osem_inj h
    injection h⟩, fun h => by rw [h.1, h.2]⟩

theorem recv_ne_bar (c c' : Dev nD) (j : Fin 17) : recvCell c j ≠ barCell c' := fun h => by
  have h : osem (.inr j) = .reg barrier0 := congrArg Prod.snd h
  cases h

variable (sn : Dev nD → Fin 17 → Bool)

theorem owed_other (d : Dev nD) (g : GSem nD τ sig) (u : ℕ) (hu : u ≠ kx) : O₀ sn d g u = 0 := by
  by_contra h
  exact hu (O₀_pos sn d (Nat.pos_of_ne_zero h)).2

theorem owed_bar (d : Dev nD) : O₀ sn d (barCell c) kx = if d = pr c then 1 else 0 := by
  unfold O₀
  rw [Pi.add_apply, Finsupp.add_apply]
  have h0 : due sn d 0 (barCell c) kx = 0 := by
    by_contra h
    obtain ⟨⟨i, hi⟩, -⟩ := due_pos sn d (Nat.pos_of_ne_zero h)
    exact recv_ne_bar _ _ _ hi.symm
  rw [h0, zero_add, tallyAt_apply]
  refine if_congr ⟨fun h => ?_, fun h => ⟨?_, rfl⟩⟩ rfl rfl
  · exact (pr_eq_comm d c).mp (dev_of_cell h.1)
  · rw [h, pr_pr]

theorem owed_recv (d : Dev nD) (j : Fin 17) : O₀ sn d (recvCell c j) kx = if d = pr c then (if sn d j = true then N else 0) else 0 := by
  unfold O₀
  rw [Pi.add_apply, Finsupp.add_apply, tallyAt_ne_cell (recv_ne_bar _ _ _), Finsupp.zero_apply, add_zero]
  unfold due
  rw [Finset.sum_apply, Finsupp.finset_sum_apply]
  rw [Finset.sum_eq_single j]
  · by_cases hs : sn d j = true
    · rw [if_pos ⟨Nat.zero_le _, hs⟩, if_pos hs, tallyAt_apply]
      refine if_congr ⟨fun h => ?_, fun h => ⟨?_, rfl⟩⟩ rfl rfl
      · exact (pr_eq_comm d c).mp (dev_of_cell h.1)
      · rw [h, pr_pr]
    · rw [if_neg fun h => hs h.2, if_neg hs, ite_self]
      rfl
  · intro i _ hi
    split
    · rw [tallyAt_apply, if_neg fun h => hi (recv_inj.mp h.1).2.symm]
    · rfl
  · intro h; exact absurd (Finset.mem_univ j) h

/-- The credit for a semaphore is what is owed to it at the exchange's index. -/
theorem credit_at (g : GSem nD τ sig) (n : ℕ) (h : ∑ d : Dev nD, O₀ sn d g kx = n) :
    tallyOn g (launchCredit (Pipeline.owing (O₀ sn)) 0 g) = (tallyAt g kx n : CellTallies nD τ sig ℕ) := by
  unfold tallyAt
  refine congrArg _ (Finsupp.ext fun u => ?_)
  rw [Pipeline.launchCredit_owing]
  by_cases hu : u = kx
  · subst hu
    rw [Finsupp.single_eq_same, h]
  · rw [Finsupp.single_eq_of_ne hu]
    exact Finset.sum_eq_zero fun d _ => owed_other sn d g u hu

theorem credit_bar : tallyOn (barCell c) (launchCredit (Pipeline.owing (O₀ sn)) 0 (barCell c)) = (tallyAt (barCell c) kx 1 : CellTallies nD τ sig ℕ) :=
  credit_at sn _ _ (by
    rw [Finset.sum_congr rfl fun d _ => owed_bar c sn d, Finset.sum_ite_eq' Finset.univ (pr c) fun _ => 1, if_pos (Finset.mem_univ _)])

theorem credit_recv (j : Fin 17) (h : sn (pr c) j = true) :
    tallyOn (recvCell c j) (launchCredit (Pipeline.owing (O₀ sn)) 0 (recvCell c j)) = (tallyAt (recvCell c j) kx N : CellTallies nD τ sig ℕ) :=
  credit_at sn _ _ (by
    rw [Finset.sum_congr rfl fun d _ => owed_recv c sn d j, Finset.sum_ite_eq' Finset.univ (pr c) fun d => if sn d j = true then N else 0,
      if_pos (Finset.mem_univ _), if_pos h])

end Ghost

def recvEmb : Fin 17 ↪ SemLoc sig := ⟨fun j => .dma (rSem j), fun i j h => by
  have h := osem_inj (show osem (.inr i) = osem (.inr j) from h)
  injection h⟩

theorem creds_intro (dst : Dev nD → Vec F S1x512 .i32) (c : Dev nD) : (Pipeline.launchCred (O₀ (sn dst)) c : sProp 𝕄) ⊢ creds dst c := by
  unfold Pipeline.launchCred creds
  rw [bigSep_univ_at _ (SemLoc.reg barrier0), credit_bar]
  refine sep_mono_right ?_
  refine (bigSep_subset (t := Finset.univ.map recvEmb) ?_).trans ?_
  · intro s hs
    obtain ⟨j, -, rfl⟩ := Finset.mem_map.mp hs
    exact Finset.mem_erase.mpr ⟨fun h => (nomatch (show SemLoc.dma (rSem j) = SemLoc.reg barrier0 from h)), Finset.mem_univ _⟩
  · rw [bigSep_map]
    refine bigSep_mono fun j _ => ?_
    show (cred (tallyOn (recvCell c j) (launchCredit (Pipeline.owing (O₀ (sn dst))) 0 (recvCell c j))) : sProp 𝕄) ⊢ held? (sn dst (pr c) j) _
    unfold held?
    by_cases h : sn dst (pr c) j = true
    · rw [if_pos h, credit_recv c (sn dst) j h]
    · rw [if_neg h]
      iintro -
      iempintro

end Cert.KernelIdeal.A2av

end
-- ==== Proof.Site.lean ====
/- The host's reduce-scatter, which gives each device its half of one copy of the table: its waits beside what the exchange
   owes, its semaphores and buffers among the program's, and its place in `@main`. -/
module

public import proofs.«01_k».proof.Proof.Ghost
public import proofs.«01_k».proof.Proof.Gen.KernelIdeal.Regions
public import Idealize.ShloMosaic.Lib.ReduceScatter.Around
public import Idealize.ShloMosaic.PureOps.BitExact

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ReduceScatter (Once.ix Once.dues_mem Once.barDue2_mem)
open Cert.KernelIdeal Cert.KernelIdeal.Gen

variable {F : FTy → Type} [FloatOps F]

local notation "𝕄" => MT nD τ sig ℕ (Elt F) ℕ UU ℕ

/-- The reduce-scatter at the values `F`. -/
abbrev site : ReduceScatter.Cfg nD τ sig (Elt F) := rs0

theorem site_R : (site (F := F)).R = 1 := by
  have h := (site (F := F)).two_R
  rw [show (site (F := F)).n = 2 from rfl] at h
  omega

/-! ## Its waits -/

/-- A dues table wholly above index `ι`, at places that have a level. -/
def Above (ι : ℕ) (D : CellTallies nD τ sig ℕ) : Prop := ∀ g u, 0 < D g u → ι < u ∧ u < 5 ∧ g.1.2 = .tc

theorem Above.add {ι : ℕ} {D D' : CellTallies nD τ sig ℕ} (h : Above ι D) (h' : Above ι D') : Above ι (D + D') := fun g u hp => by
  rw [Pi.add_apply, Finsupp.add_apply] at hp
  exact (Nat.add_pos_iff_pos_or_pos.mp hp).elim (h g u) (h' g u)

theorem may_wait (c : Dev nD) (s : SemLoc sig) {ι : ℕ} (hι : ι < 4) {D : CellTallies nD τ sig ℕ} (hD : Above ι D) :
    (levAts L lv : sProp 𝕄) ⊢ MayWait (c : Thread nD τ) s ι D :=
  MayOwe.of_cut (L := L) (lev := lv) ι
    (fun p hp => by rw [Finset.mem_singleton.mp hp]; exact mem_L _ rfl _ (by omega))
    (fun g u h => mem_L _ (hD g u h).2.2 _ (hD g u h).2.1)
    (fun p hp => by rw [Finset.mem_singleton.mp hp]; exact (lv_low _ _ hι).le)
    (fun g u h => (hD g u h).1.trans_le (lv_ge g u))

theorem above_O₀ (sn : Dev nD → Fin 17 → Bool) (c : Dev nD) {ι : ℕ} (hι : ι < 4) : Above ι (O₀ sn c) := fun g u h => by
  obtain ⟨hg, rfl⟩ := O₀_pos sn c h
  exact ⟨hι, by decide, by rcases hg with ⟨i, rfl⟩ | rfl <;> rfl⟩

theorem above_dues (c : Dev nD) {ι j : ℕ} (h : ι < 3 + j) : Above ι ((site (F := F)).dues Once.ix c 0 j) := fun g u hp => by
  have hd := Once.dues_mem (site (F := F)) hp
  have hR := site_R (F := F)
  exact ⟨by omega, by omega, hd.2⟩

theorem above_bar (c : Dev nD) : Above 1 ((site (F := F)).barDue2 Once.ix c 0) := fun g u hp => by
  obtain ⟨rfl, hg⟩ := Once.barDue2_mem (site (F := F)) hp
  exact ⟨by decide, by decide, hg⟩

theorem hwaits (sn : Dev nD → Fin 17 → Bool) (c : Dev nD) : (levAts L lv : sProp 𝕄) ⊢ (site (F := F)).waitsOK Once.ix c 0 (O₀ sn c) := by
  rw [ReduceScatter.Cfg.waitsOK_def, site_R, Finset.range_one, bigSep_singleton, if_neg (by decide)]
  iintro #H
  isplitr; · iapply (may_wait c _ (by decide) (((above_O₀ sn c (by decide)).add (above_bar c)).add (above_dues c (by decide)))); iexact H
  isplitr; · iapply (may_wait c _ (by decide) ((above_O₀ sn c (by decide)).add (above_dues c (by decide)))); iexact H
  isplitr; · iapply (may_wait c _ (by decide) ((above_O₀ sn c (by decide)).add (above_dues c (by decide)))); iexact H
  isplitr; · iapply (may_wait c _ (by decide) ((above_O₀ sn c (by decide)).add (above_dues c (by decide)))); iexact H
  isplitr
  · isplitr; · iapply (may_wait c _ (by decide) ((above_O₀ sn c (by decide)).add (above_dues c (by decide)))); iexact H
    isplitr; · iapply (may_wait c _ (by decide) ((above_O₀ sn c (by decide)).add (above_dues c (by decide)))); iexact H
    iempintro
  iapply (may_wait c _ (by decide) (above_O₀ sn c (by decide))); iexact H

/-! ## Its semaphores and buffers -/

theorem sems_all : ∀ sm : SemLoc sig, Iff (¬ sm.isScoped .tc = true) (sm = .reg barrier0 ∨ ∃ x, (site (F := Bits)).semAt x = sm) := by decide

theorem unscoped_set : (Finset.univ.filter fun sm : SemLoc sig => ¬ sm.isScoped .tc = true)
    = insert (SemLoc.reg barrier0) (Finset.univ.map ⟨(site (F := F)).semAt, (site (F := F)).semAt_injective⟩) := by
  ext sm
  simp only [Finset.mem_filter, Finset.mem_univ, true_and, Finset.mem_insert, Finset.mem_map, Function.Embedding.coeFn_mk]
  exact sems_all sm

theorem barrier_apart : ∀ x, (site (F := Bits)).semAt x ≠ .reg barrier0 := by decide

/-- A device's semaphores that live across `@main`: the exchange's barrier and the reduce-scatter's fourteen. -/
theorem unscopedSems_eq (c : Dev nD) : (unscopedSems0 (Ix := ℕ) (Name := ℕ) (U := UU) (Lvl := ℕ) (Val := Elt F) (τ := τ) c : sProp 𝕄)
    = iprop(semVal (barCell c) 0 ∗ bigSep Finset.univ fun x => semVal ((c : Thread nD τ), (site (F := F)).semAt x) 0) := by
  unfold unscopedSems0
  rw [unscoped_set (F := F), bigSep_insert (by
    rw [Finset.mem_map]
    rintro ⟨x, -, h⟩
    exact barrier_apart x h), BI.bigSep_map]
  rfl

/-- The fourteen on every device. -/
theorem over_site : (bigSep Finset.univ fun c : Dev nD => bigSep Finset.univ fun x => semVal ((c : Thread nD τ), (site (F := F)).semAt x) 0 : sProp 𝕄)
    = bigSep (site (F := F)).cells fun g => semVal g 0 := by
  unfold ReduceScatter.Cfg.cells
  rw [BI.bigSep_map, BI.bigSep_univ_prod]
  rfl

theorem scr_unscoped : scr ⊆ Finset.univ.filter fun b : Ref sig .tc => ¬ b.isScoped := by decide
theorem site_sub : (site (F := F)).siteRefs ⊆ S := fun b hb => by
  have hb : b = Proc.devRef .tc main_v7 ∨ b = Proc.devRef .tc main_v6 := (Finset.mem_insert.mp hb).imp_right Finset.mem_singleton.mp
  rcases hb with rfl | rfl <;> exact mem_S _ (by decide) (by decide)

/-- A device's buffers at launch: those held at their contents throughout, and the reduce-scatter's own five. -/
theorem buffers_split (m : (ℓ : Loc nD τ sig) → Buf (Elt F) ℓ) [∀ e, Nonempty (Elt F e)] (c : Dev nD) :
    (unscopedBufs c (fun b => m ((c : Thread nD τ).loc b)) : sProp 𝕄)
      ⊢ iprop(StableHlo.held (c : Thread nD τ) S (V0 m c) ∗ (site (F := F)).staged c) := by
  rw [Pipeline.unscopedBufs_sdiff scr scr_unscoped c,
    show Pipeline.unscopedBufsBut scr c (fun b => m ((c : Thread nD τ).loc b)) = StableHlo.held (c : Thread nD τ) S (V0 m c) from
      Pipeline.unscopedBufsBut_held (Ix := ℕ) (Name := ℕ) (U := UU) (Lvl := ℕ) scr c (V0 m c),
    show (bigSep scr fun b => (((c : Thread nD τ).loc b) ↦{fullShare} m ((c : Thread nD τ).loc b)) : sProp 𝕄)
        = iprop((((c : Thread nD τ).loc main_v7_span) ↦{fullShare} m ((c : Thread nD τ).loc main_v7_span))
          ∗ (((c : Thread nD τ).loc main_v7_rcv0) ↦{fullShare} m ((c : Thread nD τ).loc main_v7_rcv0))
          ∗ (((c : Thread nD τ).loc main_v7_rcv1) ↦{fullShare} m ((c : Thread nD τ).loc main_v7_rcv1))
          ∗ (((c : Thread nD τ).loc main_v7_crcv0) ↦{fullShare} m ((c : Thread nD τ).loc main_v7_crcv0))
          ∗ (((c : Thread nD τ).loc main_v7_crcv1) ↦{fullShare} m ((c : Thread nD τ).loc main_v7_crcv1))) from bigSep_eq_bigSepL scrL (by decide) _]
  iintro ⟨Hs, Hh⟩
  isplitl [Hh]; · iexact Hh
  iapply (ReduceScatter.Once.staged_of_whole (site (F := F)) c (m ((c : Thread nD τ).loc main_v7_span)) (m ((c : Thread nD τ).loc main_v7_rcv0))
    (m ((c : Thread nD τ).loc main_v7_rcv1)) (m ((c : Thread nD τ).loc main_v7_crcv0)) (m ((c : Thread nD τ).loc main_v7_crcv1)))
  iexact Hs

/-! ## Its place in `@main` -/

section Place
variable (m : (ℓ : Loc nD τ sig) → Buf (Elt F) ℓ) (sn : Dev nD → Fin 17 → Bool)
variable [∀ e, Nonempty (Elt F e)]

/-- What every device holds as it enters, and what it rides in with. -/
abbrev entry : Dev nD → Valuation τ sig (Elt F) := V2 m
abbrev rides (c : Dev nD) : sProp 𝕄 := (ReduceScatter.Dat.once (site (F := F)) (entry m)).rides EC Once.ix c
/-- What it comes out with, from which its semaphores are read at the end. -/
def spent (c : Dev nD) : sProp 𝕄 := iprop(ReduceScatter.Once.invs (site (F := F)) EC (entry m) ∗ (site (F := F)).ghostAfter EC c 0)

/-- The reduce-scatter as an item of `@main`; `Keep` passes by. -/
def reduction (Keep : Dev nD → sProp 𝕄) : Pipeline.HostSeg (Ix := ℕ) (Name := ℕ) (U := UU) (Lvl := ℕ) (pcfgs (F := F)) defs₀ 𝒱₀ L lv :=
  ReduceScatter.hostSegHeld₀ EC Once.ix pcfgs defs₀ 𝒱₀ L lv (entry m) (O₀ sn) (hwaits sn)
    fun c => iprop(ReduceScatter.Once.invs (site (F := F)) EC (entry m) ∗ StableHlo.held (c : Thread nD τ) (S \ (site (F := F)).siteRefs) (entry m c) ∗ Keep c)

theorem reduce_pre (Keep : Dev nD → sProp 𝕄) (c : Dev nD) : iprop(StableHlo.held (c : Thread nD τ) S (entry m c) ∗ Keep c ∗ (site (F := F)).staged c ∗ rides m c
      ∗ ∃ W, owes (c : Thread nD τ) (O₀ sn c + (site (F := F)).allDues Once.ix c 0) W) ⊢ (reduction m sn Keep).pre c := by
  dsimp only [reduction, ReduceScatter.hostSegHeld₀, rides, ReduceScatter.Dat.rides]
  rw [StableHlo.held_sub_split (c : Thread nD τ) (site_sub (F := F)) (entry m c)]
  iintro ⟨⟨Hh, Hr⟩, HK, Hs, ⟨#Hi, Hd⟩, HO⟩
  isplitl [Hh Hs]
  · isplitl [Hh]; · iexact Hh
    iexact Hs
  isplitl [Hd]
  · isplitr; · iexact Hi
    iexact Hd
  isplitl [HO]; · iexact HO
  isplitr; · iexact Hi
  isplitl [Hr]; · iexact Hr
  iexact HK

theorem reduce_post (Keep : Dev nD → sProp 𝕄) (c : Dev nD) : (reduction m sn Keep).post c
    ⊢ (iprop(StableHlo.held (c : Thread nD τ) S ((site (F := F)).after₀ (entry m) c) ∗ Keep c ∗ spent m c ∗ ∃ W, owes (c : Thread nD τ) (O₀ sn c) W) : sProp 𝕄) := by
  have hk : ∀ b ∈ (S \ (site (F := F)).siteRefs : Finset (DevRef τ sig)), (site (F := F)).after₀ (entry m) c b = entry m c b := fun b hb =>
    (site (F := F)).after₀_off_siteRefs (entry m) c (Finset.mem_sdiff.mp hb).2
  dsimp only [reduction, ReduceScatter.hostSegHeld₀]
  unfold spent
  rw [StableHlo.held_sub_split (c : Thread nD τ) (site_sub (F := F)) ((site (F := F)).after₀ (entry m) c),
    StableHlo.held_congr (c : Thread nD τ) hk]
  iintro ⟨⟨Hh, -⟩, Hg, HO, Hi, Hr, HK⟩
  isplitl [Hh Hr]
  · isplitl [Hh]; · iexact Hh
    iexact Hr
  isplitl [HK]; · iexact HK
  isplitr [HO]
  · isplitl [Hi]; · iexact Hi
    iexact Hg
  iexact HO

end Place

end Cert.KernelIdeal.A2av

end
-- ==== Proof.Launch.lean ====
/- The launch: `@main`'s host operations and its reduce-scatter, then the kernel's one call, at any float values. -/
module

public import proofs.«01_k».proof.Proof.Site
public import proofs.«01_k».proof.Proof.Gen.KernelIdeal.Points
public import Idealize.ShloMosaic.Lib.Pipeline.RegionTalk
public import Idealize.ShloMosaic.Lib.Pipeline.FrameBody

@[expose] public section

noncomputable section

namespace Cert.KernelIdeal.A2av

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ReduceScatter (Once.ix Once.uC)
open Cert.KernelIdeal Cert.KernelIdeal.Gen

variable {F : FTy → Type} [FloatOps F]

local notation "𝕄" => MT nD τ sig ℕ (Elt F) ℕ UU ℕ

attribute [local irreducible] run finStep seqFin tail

section Launch
variable (m : (ℓ : Loc nD τ sig) → Buf (Elt F) ℓ)

/-- The destinations device `c`'s call is given: what the reduce-scatter leaves it, as a row. -/
def dstOf (c : Dev nD) : Vec F S1x512 .i32 := StableHlo.after hostOps1 ((site (F := F)).after₀ (entry m) c) main_v8
/-- The rows it is given: its block of the operand. -/
def xinOf (c : Dev nD) : Vec F S512x256 .f32 := m ((c : Thread nD τ).loc main_arg0)

/-- What the reduce-scatter and the call leave in their results. -/
def outs : Outs (F := F) := fun _ r c =>
  if h : r = main_v9 then h ▸ outF (dstOf m) (xinOf m) c else if h : r = main_v7 then h ▸ (site (F := F)).reducedOf (entry m) c else m (c, r)

theorem V3_eq (c : Dev nD) : V3 m (outs m) c = (site (F := F)).after₀ (entry m) c := by
  refine congrArg (Function.update (V2 m c) (main_v7 : DevRef τ sig)) ?_
  unfold outs
  rw [dif_neg (by decide), dif_pos rfl]
theorem V4_v8 (c : Dev nD) : V4 m (outs m) c main_v8 = dstOf m c := by
  unfold V4; rw [V3_eq]; rfl
theorem V4_v9 (c : Dev nD) : V4 m (outs m) c main_v9 = m ((c : Thread nD τ).loc main_v9) :=
  (V4_of m (outs m) c main_v9 (by decide)).trans <| (V3_of m (outs m) c main_v9 (by decide)).trans <|
    (V2_of m c main_v9 (by decide)).trans (V1_of m c main_v9 (by decide))
theorem V5_v9 (c : Dev nD) : V5 m (outs m) c main_v9 = outF (dstOf m) (xinOf m) c := by
  unfold V5
  rw [Function.update_self]
  rfl

/-! ## The call's one point -/

/-- Three scratch buffers, at contents not chosen, and the generator. -/
def scratch (c : Dev nD) : sProp 𝕄 := iprop(some_ c sM ∗ some_ c rM ∗ some_ c uM ∗ ∃ r, prngReg c r)

/-- What the device enters the body with, and what it leaves. -/
def Xk (c : Dev nD) : sProp 𝕄 := iprop((∃ κ, opened (dstOf m) (xinOf m) κ c) ∗ creds (dstOf m) c ∗ levAts L lv)
def Tk (c : Dev nD) : sProp 𝕄 := iprop((∃ κ, closed (dstOf m) (xinOf m) κ c) ∗ creds (dstOf m) c)
def Yk (c : Dev nD) : sProp 𝕄 := semVal (barCell c) 0

def dats (_ : Fin 1) (c : Dev nD) : Dat τ (Elt F) ℕ ℕ UU ℕ cfg0 c where
  A | 0 => dstOf m c
    | 1 => xinOf m c
    | 2 => m ((c : Thread nD τ).loc main_v9)
  after | 0 => fun _ => dstOf m c
        | 1 => fun _ => xinOf m c
        | 2 => fun _ => outF (dstOf m) (xinOf m) c
  Φ t := if t.val = 0 then iprop(Xk m c ∗ scratch c) else iprop((Yk c ∗ rested c) ∗ scratch c)
  q _ := fullShare
  owed t := if t.val = 0 then O₀ (sn (dstOf m)) c else 0

theorem read_v8 (c : Dev nD) (f : Buf (Elt F) ((c : Thread nD τ).loc main_v8)) : (win0_0.blk t0_0).view.read (Elt F) f = f :=
  Memref.read_access_unit_zero (Elt F) main_v8
    (show (fun a => (win0_0.index t0_0) a * main_v8.ty.shape.size a) = fun _ => 0 from
      funext fun a => by fin_cases a <;> decide) (fun a => by fin_cases a <;> decide) f
theorem read_arg0 (c : Dev nD) (f : Buf (Elt F) ((c : Thread nD τ).loc main_arg0)) : (win0_1.blk t0_0).view.read (Elt F) f = f :=
  Memref.read_access_unit_zero (Elt F) main_arg0
    (show (fun a => (win0_1.index t0_0) a * main_arg0.ty.shape.size a) = fun _ => 0 from
      funext fun a => by fin_cases a <;> decide) (fun a => by fin_cases a <;> decide) f
theorem read_v9 (c : Dev nD) (f : Buf (Elt F) ((c : Thread nD τ).loc main_v9)) : (win0_2.blk t0_0).view.read (Elt F) f = f :=
  Memref.read_access_unit_zero (Elt F) main_v9
    (show (fun a => (win0_2.index t0_0) a * main_v9.ty.shape.size a) = fun _ => 0 from
      funext fun a => by fin_cases a <;> decide) (fun a => by fin_cases a <;> decide) f

theorem before_0 (c : Dev nD) (d) : (dats m 0 c).before 0 t0_0 d = dstOf m c := by
  unfold Dat.before
  rw [if_pos (show ((cfg0.win 0).fetch t0_0) = true from fetch0_0 t0_0)]
  exact read_v8 (F := F) c (dstOf m c)
theorem before_1 (c : Dev nD) (d) : (dats m 0 c).before 1 t0_0 d = xinOf m c := by
  unfold Dat.before
  rw [if_pos (show ((cfg0.win 1).fetch t0_0) = true from fetch0_1 t0_0)]
  exact read_arg0 (F := F) c (xinOf m c)

theorem arrAt_v9 (c : Dev nD) : (dats m 0 c).arrAt 2 cfg0.N = outF (dstOf m) (xinOf m) c := by
  have hw : ((cfg0.win 2).blk t0_0).view.read (Elt F) ((dats m 0 c).arrAt 2 cfg0.N) = (dats m 0 c).flushed 2 t0_0 := by
    rw [show cfg0.N = t0_0.val + 1 from rfl, (dats m 0 c).arrAt_succ (2 : Fin 3) t0_0, flush0_2, if_pos rfl]
    exact View.read_write_univ _ _
  exact (read_v9 c _).symm.trans (hw.trans (funext fun _ => rfl))

theorem owesAt_elim (c : Dev nD) (t : Fin (cfg0.N + 1)) (O : CellTallies nD τ sig ℕ) (h0 : (dats m 0 c).owed t = O) :
    ((dats m 0 c).owesAt 0 t : sProp 𝕄) ⊢ iprop(∃ W, owes (c : Thread nD τ) O W) := by
  unfold Dat.owesAt Pipeline.owesWithin
  rw [h0]
  iintro ⟨%W, -, HO⟩
  iexists W
  iexact HO
theorem owesAt_intro (c : Dev nD) (t : Fin (cfg0.N + 1)) (O : CellTallies nD τ sig ℕ) (h0 : (dats m 0 c).owed t = O) (W : Waits sig ℕ) :
    (owes (c : Thread nD τ) O W : sProp 𝕄) ⊢ (dats m 0 c).owesAt 0 t := by
  unfold Dat.owesAt Pipeline.owesWithin Dat.bound
  rw [h0, show (dats m 0 c).recorded t = Set.univ from rfl]
  iintro HO
  iexists W
  isplitr
  · ipureintro; exact fun _ _ => Or.inl trivial
  iexact HO

theorem Φ_at (c : Dev nD) (t : Fin (cfg0.N + 1)) :
    (dats m 0 c).Φ t = if t.val = 0 then iprop(Xk m c ∗ scratch c) else iprop((Yk c ∗ rested c) ∗ scratch c) := rfl
theorem owed_at (c : Dev nD) (t : Fin (cfg0.N + 1)) : (dats m 0 c).owed t = if t.val = 0 then O₀ (sn (dstOf m)) c else 0 := rfl
theorem Φ_first (c : Dev nD) : (dats m 0 c).Φ t0_0.castSucc = iprop(Xk m c ∗ scratch c) := (Φ_at m c _).trans (if_pos rfl)
theorem Φ_last (c : Dev nD) : (dats m 0 c).Φ t0_0.succ = iprop((Yk c ∗ rested c) ∗ scratch c) := (Φ_at m c _).trans (if_neg (by decide))
theorem owed_first (c : Dev nD) : (dats m 0 c).owed t0_0.castSucc = O₀ (sn (dstOf m)) c := (owed_at m c _).trans (if_pos rfl)
theorem owed_last (c : Dev nD) : (dats m 0 c).owed t0_0.succ = 0 := (owed_at m c _).trans (if_neg (by decide))

theorem run_wand {α : Type} (c : Dev nD) (p : Prog (TpuEff nD τ sig (Elt F) Λ₀ .tc) α) (Q Q' : α → sProp 𝕄) :
    run c p Q ⊢ iprop((∀ a, Q a -∗ Q' a) -∗ run c p Q') := by
  rw [run_eq, run_eq]
  exact wp_wand _ _ _

theorem body_at : defs₀ (F := F) .tc cfg0.body (cfg0.bodyArgs t0_0 (cfg0.slots t0_0))
    = cc0_body (F := F) dM (Memref.isWhole_whole _) xM (Memref.isWhole_whole _) oM (Memref.isWhole_whole _) sM (Memref.isWhole_whole _)
        rM (Memref.isWhole_whole _) uM (Memref.isWhole_whole _) cc0_scratch3 cc0_scratch4 := rfl

variable [∀ e, Nonempty (Elt F e)]
variable (H : ∀ c, nS c (dstOf m c) = nS (pr c) (dstOf m (pr c)))

include H in
theorem point (c : Dev nD) :
    iprop((Xk m c ∗ scratch c) ∗ (∃ W, owes (c : Thread nD τ) (O₀ (sn (dstOf m)) c) W) ∗ owns (c : Thread nD τ) dM fullShare (dstOf m c)
        ∗ owns (c : Thread nD τ) xM fullShare (xinOf m c) ∗ some_ c oM)
      ⊢ run c (cc0_body (F := F) dM (Memref.isWhole_whole _) xM (Memref.isWhole_whole _) oM (Memref.isWhole_whole _) sM (Memref.isWhole_whole _)
        rM (Memref.isWhole_whole _) uM (Memref.isWhole_whole _) cc0_scratch3 cc0_scratch4)
        fun _ => iprop(((Yk c ∗ rested c) ∗ scratch c) ∗ (∃ W, owes (c : Thread nD τ) (0 : CellTallies nD τ sig ℕ) W)
          ∗ owns (c : Thread nD τ) dM fullShare (dstOf m c) ∗ owns (c : Thread nD τ) xM fullShare (xinOf m c)
          ∗ owns (c : Thread nD τ) oM fullShare (outF (dstOf m) (xinOf m) c)) := by
  rw [show (owns (c : Thread nD τ) dM fullShare (dstOf m c) : sProp 𝕄) = dPts (dstOf m) c from owns_whole _ _ _ _,
    show (owns (c : Thread nD τ) xM fullShare (xinOf m c) : sProp 𝕄) = xPts (xinOf m) c from owns_whole _ _ _ _]
  unfold Xk scratch
  iintro ⟨⟨⟨⟨%κ, Ho⟩, Hc, Hl⟩, Hs, Hr, Hu, Hp⟩, ⟨%W, HO⟩, Hd, Hx, Hout⟩
  ihave Hrun := (body_run (dstOf m) (xinOf m) H κ c W) $$ [Ho Hc Hl Hs Hr Hu HO Hd Hx Hout]
  · unfold bodyPre
    isplitl [Ho]; · iexact Ho
    isplitl [Hc]; · iexact Hc
    isplitl [Hl]; · iexact Hl
    isplitl [Hd]; · iexact Hd
    isplitl [Hx]; · iexact Hx
    isplitl [Hout]; · iexact Hout
    isplitl [Hs]; · iexact Hs
    isplitl [Hr]; · iexact Hr
    isplitl [Hu]; · iexact Hu
    iexact HO
  iapply (run_wand c _ _ _) $$ Hrun
  iintro %_ HP
  unfold bodyPost Yk
  icases HP with ⟨Hb, Hd, Hx, Hout, Hs, Hr, Hu, Hrest, HO⟩
  isplitl [Hb Hrest Hs Hr Hu Hp]
  · isplitl [Hb Hrest]
    · isplitl [Hb]; · iexact Hb
      iexact Hrest
    isplitl [Hs]; · iexact Hs
    isplitl [Hr]; · iexact Hr
    isplitl [Hu]; · iexact Hu
    iexact Hp
  isplitl [HO]; · iexact HO
  isplitl [Hd]; · iexact Hd
  isplitl [Hx]; · iexact Hx
  iexact Hout

theorem point_in (c : Dev nD) :
    iprop((dats m 0 c).Φ t0_0.castSucc ∗ (dats m 0 c).owesAt 0 t0_0.castSucc
        ∗ (∃ d, owns (c : Thread nD τ) dM fullShare ((dats m 0 c).before 0 t0_0 d)) ∗ (∃ d, owns (c : Thread nD τ) xM fullShare ((dats m 0 c).before 1 t0_0 d))
        ∗ ∃ d, owns (c : Thread nD τ) oM fullShare ((dats m 0 c).before 2 t0_0 d))
      ⊢ iprop((Xk m c ∗ scratch c) ∗ (∃ W, owes (c : Thread nD τ) (O₀ (sn (dstOf m)) c) W) ∗ owns (c : Thread nD τ) dM fullShare (dstOf m c)
        ∗ owns (c : Thread nD τ) xM fullShare (xinOf m c) ∗ some_ c oM) := by
  rw [Φ_first]
  iintro ⟨HΦ, HO, ⟨%d, Hd⟩, ⟨%x, Hx⟩, ⟨%o, Ho⟩⟩
  isplitl [HΦ]; · iexact HΦ
  isplitl [HO]; · iapply (owesAt_elim m c _ _ (owed_first m c)); iexact HO
  isplitl [Hd]; · iapply (Entails.of_eq (congrArg (owns (c : Thread nD τ) dM fullShare) (before_0 m c d))); iexact Hd
  isplitl [Hx]; · iapply (Entails.of_eq (congrArg (owns (c : Thread nD τ) xM fullShare) (before_1 m c x))); iexact Hx
  unfold some_
  iexists _
  iexact Ho

theorem point_out (c : Dev nD) :
    iprop(((Yk c ∗ rested c) ∗ scratch c) ∗ (∃ W, owes (c : Thread nD τ) (0 : CellTallies nD τ sig ℕ) W)
        ∗ owns (c : Thread nD τ) dM fullShare (dstOf m c) ∗ owns (c : Thread nD τ) xM fullShare (xinOf m c)
        ∗ owns (c : Thread nD τ) oM fullShare (outF (dstOf m) (xinOf m) c))
      ⊢ iprop((dats m 0 c).Φ t0_0.succ ∗ (dats m 0 c).owesAt 0 t0_0.succ
        ∗ owns (c : Thread nD τ) dM fullShare ((dats m 0 c).after 0 t0_0) ∗ owns (c : Thread nD τ) xM fullShare ((dats m 0 c).after 1 t0_0)
        ∗ owns (c : Thread nD τ) oM fullShare ((dats m 0 c).after 2 t0_0)) := by
  rw [Φ_last]
  iintro ⟨HΦ, ⟨%W, HO⟩, Hd, Hx, Ho⟩
  isplitl [HΦ]; · iexact HΦ
  isplitl [HO]; · iapply (owesAt_intro m c _ _ (owed_last m c)); iexact HO
  isplitl [Hd]; · iexact Hd
  isplitl [Hx]; · iexact Hx
  iexact Ho

include H in
theorem body (c : Dev nD) : BodyObligation (dats m 0 c) defs₀ 𝒱₀ 0 Set.univ := fun t => by
  obtain rfl := fin_N0 t
  rw [bigSep_W0, bigSep_W0, body_at]
  refine BIBase.Entails.trans (point_in m c) ?_
  rw [← run_eq]
  refine BIBase.Entails.trans (point m H c) ?_
  exact run_mono fun _ => point_out m c

/-! ## The call as a region -/

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%κ, Hg⟩, Hc⟩, Hr, Hlev⟩
  imod (open_all (dstOf m) (xinOf m) κ c) $$ [Hg Hr] with Ho
  · isplitl [Hg]; · iexact Hg
    iexact Hr
  imodintro
  isplitl [Ho]; · iexists κ; iexact Ho
  isplitl [Hc]; · iexact Hc
  iexact Hlev

theorem scratch_eq (c : Dev nD) :
    (iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) : sProp 𝕄)
      = iprop(some_ c sM ∗ some_ c rM ∗ some_ c uM) := by
  unfold some_
  simp only [owns_whole]
  rfl

theorem Φ_enter (c : Dev nD) : iprop(Pipeline.scopedRest spec0 c ∗ (∃ r, prngReg c r) ∗ StableHlo.held (c.tc : Thread nD τ) ∅ (V4 m (outs m) c) ∗ Xk m c) ⊢ (dats m 0 c).Φ 0 := by
  rw [show (dats m 0 c).Φ 0 = iprop(Xk m c ∗ scratch c) from Φ_first m c, scopedRest0_eq, scratch_eq]
  unfold scratch
  iintro ⟨⟨Hs, Hr, Hu⟩, Hp, -, HX⟩
  isplitl [HX]; · iexact HX
  isplitl [Hs]; · iexact Hs
  isplitl [Hr]; · iexact Hr
  isplitl [Hu]; · iexact Hu
  iexact Hp

theorem Φ_leave (c : Dev nD) : (dats m 0 c).Φ (Fin.last cfg0.N)
    ⊢ iprop(Pipeline.scopedRest spec0 c ∗ (∃ r, prngReg c r) ∗ StableHlo.held (c.tc : Thread nD τ) ∅ (V5 m (outs m) c) ∗ Pipeline.ownSems0 osem c ∗ Yk c) := by
  rw [show (dats m 0 c).Φ (Fin.last cfg0.N) = iprop((Yk c ∗ rested c) ∗ scratch c) from Φ_last m c, scopedRest0_eq, scratch_eq, ownSems_eq]
  unfold scratch StableHlo.held
  rw [bigSep_empty]
  iintro ⟨⟨HY, HR⟩, Hs, Hr, Hu, Hp⟩
  isplitl [Hs Hr Hu]
  · isplitl [Hs]; · iexact Hs
    isplitl [Hr]; · iexact Hr
    iexact Hu
  isplitl [Hp]; · iexact Hp
  isplitr; · iempintro
  isplitl [HR]; · iexact HR
  iexact HY

theorem own_facts : Pipeline.OwnSemFacts spec0 osem where
  isScoped := by decide
  inj := osem_inj
  disj := by decide

theorem staging_lv (c : Dev nD) (w : Fin 3) (s : Fin (cfg0.win w).nbuf) : lv ((c : Thread nD τ), .dma ((cfg0.win w).sem s)) 0 ≤ 0 :=
  (lv_low _ _ (by decide)).le

theorem above (c : Dev nD) (t : Fin (cfg0.N + 1)) (g : GSem nD τ sig) (i : ℕ) (h : 0 < (dats m 0 c).owed t g i) : i ∈ L g ∧ (0 : ℕ) < lv g i := by
  rw [owed_at] at h
  split at h
  · obtain ⟨hi, h5, hg⟩ := above_O₀ _ c (ι := 0) (by decide) g i h
    exact ⟨mem_L g hg i h5, hi.trans_le (lv_ge g i)⟩
  · exact absurd h (Nat.lt_irrefl 0)

/-- The buffers held through `@main` that are no array of the call. -/
abbrev others : Finset (DevRef τ sig) := S \ Pipeline.arrRefs spec0

theorem V5_others (c : Dev nD) : ∀ b ∈ others \ (∅ : Finset (DevRef τ sig)), V5 m (outs m) c b = V4 m (outs m) c b := fun b hb => by
  have hb := (Finset.mem_sdiff.mp (Finset.mem_sdiff.mp hb).1).2
  refine Function.update_of_ne (fun h => hb ?_) _ _
  rw [h]
  decide

theorem arr_enter (c : Dev nD) (w : Fin 3) : (dats m 0 c).arrAt w 0 = V4 m (outs m) c (Proc.devRef .tc (Pipeline.arrRef spec0 w)) := by
  fin_cases w
  · exact (V4_v8 m c).symm
  · exact (V4_args m (outs m) c main_arg0 (by decide)).symm
  · exact (V4_v9 m c).symm
theorem arr_leave (c : Dev nD) (w : Fin 3) : (dats m 0 c).arrAt w cfg0.N = V5 m (outs m) c (Proc.devRef .tc (Pipeline.arrRef spec0 w)) := by
  fin_cases w
  · exact ((dats m 0 c).arrAt_in (0 : Fin 3) rfl _).trans ((V5_of m (outs m) c main_v8 (by decide)).trans (V4_v8 m c)).symm
  · exact ((dats m 0 c).arrAt_in (1 : Fin 3) rfl _).trans (V5_main_arg0 m (outs m) c).symm
  · exact (arrAt_v9 m c).trans (V5_v9 m c).symm

set_option backward.isDefEq.respectTransparency.types false in
def reg : Pipeline.RegionSeg (pcfgs (F := F)) adm (dats m) 0 defs₀ 𝒱₀ L lv 0 :=
  Pipeline.RegionSeg.ofTalk (pcfgs (F := F)) adm (dats m) 0 defs₀ 𝒱₀ L lv 0 osem own_facts
    ∅ others (Finset.empty_subset _) launch0.toP rfl (fun c => (body m H c).loose)
    (fun _ => 0) (O₀ (sn (dstOf m))) (fun c => (owed_first m c).trans (zero_add _).symm) (owed_last m) (fun _ => rfl) (fun c w => by unfold Dat.share; split <;> rfl)
    (V4 m (outs m)) (V5 m (outs m)) (V5_others m)
    (Tk m) Yk (Xk m) Yk (hopen m) (Φ_enter m) (Φ_leave m)
    (fun c => by iintro H; imodintro; iexact H)
    (fun _ => 0)
    ⟨fun c w s => mem_L _ rfl _ (by decide), fun c w s => staging_lv c w s, fun c t g i h => above m c t g i h⟩
    (spent m)
    (arr_enter m) (arr_leave m)

/-! ## The launch -/

/-- What a device owes at launch: the exchange's dues, and the reduce-scatter's. -/
abbrev dues (c : Dev nD) : CellTallies nD τ sig ℕ := O₀ (sn (dstOf m)) c + (site (F := F)).allDues Once.ix c 0

/-- The launch's element: the pipeline's part, the exchange's and the reduce-scatter's. -/
def u₀ : UU :=
  (initOf (Pipeline.cells (Pipeline.pin (pcfgs (F := F)) adm) cellOf_inj) (Pipeline.launchToks (Pipeline.pin (pcfgs (F := F)) adm) cellOf_inj),
    (launchOf barCells ownCells allToks, Once.uC (site (F := F)) (entry m)))

/-- All of `X` on device 0. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst
  rw [if_pos rfl]
  exact BI.equiv_iff.mp sep_emp

def G : Dev nD → sProp 𝕄 :=
  onFirst iprop(BI.own (ER (launchOf barCells ownCells allToks)) ∗ BI.own (EC (Once.uC (site (F := F)) (entry m))))

/-- What passes by the reduce-scatter. -/
abbrev keep (c : Dev nD) : sProp 𝕄 := iprop(Tk m c ∗ ∃ r, prngReg c r)

/-- What rides beside the buffers: before the reduce-scatter, between it and the call, after the call. -/
def rest (j : Fin 3) (c : Dev nD) : sProp 𝕄 :=
  match j with
  | 0 => iprop(keep m c ∗ (site (F := F)).staged c ∗ rides m c ∗ ∃ W, owes (c : Thread nD τ) (dues m c) W)
  | 1 => iprop(keep m c ∗ spent m c ∗ ∃ W, owes (c : Thread nD τ) (O₀ (sn (dstOf m)) c) W)
  | 2 => iprop(semVal (barCell c) 0 ∗ spent m c ∗ ∃ W, owes (c : Thread nD τ) (0 : CellTallies nD τ sig ℕ) W)

/-- What a device has at launch that is neither the exchange's nor the reduce-scatter's. -/
def bundle (c : Dev nD) : sProp 𝕄 :=
  iprop((StableHlo.held (c : Thread nD τ) S (V0 m c) ∗ (site (F := F)).staged c) ∗ creds (dstOf m) c
    ∗ owes (c : Thread nD τ) (dues m c) ∅ ∗ ∃ r, prngReg c r)

abbrev T₀ (c : Dev nD) : sProp 𝕄 := iprop(StableHlo.held (c : Thread nD τ) S (V0 m c) ∗ rest m 0 c)

theorem T₀_intro (κ : GSem nD τ sig → ℕ) (c : Dev nD) : iprop(records (dstOf m) (xinOf m) κ ∗ (linear c ∗ rides m c ∗ bundle m c)) ⊢ T₀ m c := by
  unfold bundle T₀
  dsimp only [rest, keep]
  unfold Tk
  iintro ⟨#HR, Hl, Hd, ⟨Hh, Hs⟩, Hc, HO, Hp⟩
  isplitl [Hh]; · iexact Hh
  isplitl [Hl Hc Hp]
  · isplitr [Hp]
    · isplitl [Hl]
      · iexists κ
        iapply (closed_intro (dstOf m) (xinOf m) κ c)
        isplitr; · iexact HR
        iexact Hl
      iexact Hc
    iexact Hp
  isplitl [Hs]; · iexact Hs
  isplitl [Hd]; · iexact Hd
  iexists ∅
  iexact HO

/-- What a device is dealt, sorted: its bundle, its semaphores, its share of the launch's element, the reduce-scatter's credit. -/
theorem deal (ρ : Dev nD → PrngReg) (c : Dev nD) : iprop(unscopedBufs c (fun b => m ((c : Thread nD τ).loc b)) ∗ unscopedSems0 c
      ∗ owes (c : Thread nD τ) (dues m c) ∅ ∗ Pipeline.launchCred (dues m) c ∗ prngReg c (ρ c) ∗ G m c)
    ⊢ (iprop(bundle m c ∗ semVal (barCell c) 0 ∗ G m c ∗ (bigSep Finset.univ fun x => semVal ((c : Thread nD τ), (site (F := F)).semAt x) 0)
        ∗ Pipeline.launchCred (fun d => (site (F := F)).allDues Once.ix d 0) c) : sProp 𝕄) := by
  rw [unscopedSems_eq, Pipeline.launchCred_add (O₀ (sn (dstOf m))) (fun d => (site (F := F)).allDues Once.ix d 0) c]
  unfold bundle
  iintro ⟨Hh, ⟨Hb, Hs⟩, HO, ⟨Hcr, Hd⟩, Hp, HG⟩
  ihave Hc := (creds_intro (dstOf m) c) $$ Hcr
  ihave Hh := (buffers_split m c) $$ Hh
  isplitl [Hh Hc HO Hp]
  · isplitl [Hh]; · iexact Hh
    isplitl [Hc]; · iexact Hc
    isplitl [HO]; · iexact HO
    iexists (ρ c); iexact Hp
  isplitl [Hb]; · iexact Hb
  isplitl [HG]; · iexact HG
  isplitl [Hs]; · iexact Hs
  iexact Hd

theorem init (ρ : Dev nD → PrngReg) :
    iprop((bigSep Finset.univ fun c : Dev nD => iprop(unscopedBufs c (fun b => m ((c : Thread nD τ).loc b)) ∗ unscopedSems0 c
          ∗ owes (c : Thread nD τ) (dues m c) ∅ ∗ Pipeline.launchCred (dues m) c ∗ prngReg c (ρ c) ∗ G m c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (dues m c) ∅ ∗ Pipeline.launchCred (dues m) c ∗ prngReg c (ρ c) ∗ G m c))
      ⊢ (iprop((bigSep Finset.univ (bundle m)) ∗ (bigSep barCells fun g => semVal g 0)
        ∗ (BI.own (ER (launchOf barCells ownCells allToks)) ∗ BI.own (EC (Once.uC (site (F := F)) (entry m))))
        ∗ (bigSep (site (F := F)).cells fun g => semVal g 0)
        ∗ bigSep Finset.univ fun c => Pipeline.launchCred (fun d => (site (F := F)).allDues Once.ix d 0) c) : sProp 𝕄) from by
    refine BIBase.Entails.trans (bigSep_mono fun c _ => deal m ρ c) ?_
    rw [bigSep_sep', bigSep_sep', bigSep_sep', bigSep_sep', over_bar fun g => (semVal g 0 : sProp 𝕄), over_site]
    unfold G
    rw [onFirst_all]) $$ H
  icases H' with ⟨HB, Hv, ⟨Hu, HuC⟩, Hsv, Hcr⟩
  imod ((ReduceScatter.Dat.once (site (F := F)) (entry m)).fund_rides EC Once.ix (Es := Set.univ)) $$ [Hsv Hcr HuC] with Hrides
  · isplitl [Hsv]; · iexact Hsv
    isplitl [Hcr]; · iexact Hcr
    unfold Once.uC
    iexact HuC
  imod (Rounds.fund_launch ER (Rd (sn (dstOf m)) (pay (dstOf m) (xinOf m))) cells_disjoint (fun g _ h => h) allToks) $$ [Hv Hu] with ⟨%κ, -, #Hinv, #Hr, Hat, Hopen, Htok⟩
  · isplitl [Hv]; · iexact Hv
    iexact Hu
  imodintro
  iapply (show iprop(records (dstOf m) (xinOf m) κ ∗ bigSep Finset.univ fun c : Dev nD => iprop(linear c ∗ rides m c ∗ bundle m c)) ⊢ bigSep Finset.univ (T₀ m) from
    bigSep_with_persistent fun c _ => T₀_intro m κ c)
  isplitr
  · unfold records
    isplitr; · iexact Hinv
    iexact Hr
  iapply (show iprop((bigSep barCells fun g => atPos ER g 0 ∅ 0) ∗ (bigSep ownCells fun g => openTok ER g) ∗ (bigSep Finset.univ fun c : Dev nD => tokens c)
      ∗ bigSep Finset.univ (rides m) ∗ bigSep Finset.univ (bundle m)) ⊢ (bigSep Finset.univ fun c : Dev nD => iprop(linear c ∗ rides m c ∗ bundle m c) : sProp 𝕄) from by
    unfold linear openers
    rw [over_bar fun g => (atPos ER g 0 ∅ 0 : sProp 𝕄), over_own fun g => (openTok ER g : sProp 𝕄)]
    simp only [bigSep_sep']
    iintro ⟨H₁, H₂, H₃, H₄, H₅⟩
    isplitr [H₄ H₅]
    · isplitl [H₁]; · iexact H₁
      isplitl [H₂]; · iexact H₂
      iexact H₃
    isplitl [H₄]; · iexact H₄
    iexact H₅)
  isplitl [Hat]; · iexact Hat
  isplitl [Hopen]; · iexact Hopen
  isplitl [Htok]; · iapply tokens_around; iexact Htok
  isplitl [Hrides]; · iexact Hrides
  iexact HB

/-! ## The run -/

theorem arrs_held : Pipeline.arrRefs spec0 ⊆ S := by decide

theorem held_split (c : Dev nD) (V : Valuation τ sig (Elt F)) :
    (StableHlo.held (c : Thread nD τ) S V : sProp 𝕄)
      = iprop(StableHlo.held (c : Thread nD τ) (Pipeline.arrRefs spec0) V ∗ StableHlo.held (c : Thread nD τ) others V) :=
  StableHlo.held_sub_split (c.tc : Thread nD τ) arrs_held V

theorem reg_pre (c : Dev nD) : iprop(StableHlo.held (c : Thread nD τ) S (V4 m (outs m) c) ∗ rest m 1 c) ⊢ (reg m H).pre c := by
  show _ ⊢ iprop(StableHlo.held (c.tc : Thread nD τ) (Pipeline.arrRefs spec0) (V4 m (outs m) c) ∗ (∃ r, prngReg c r)
    ∗ (StableHlo.held (c.tc : Thread nD τ) others (V4 m (outs m) c) ∗ spent m c) ∗ Tk m c ∗ ∃ Wd, owes (c : Thread nD τ) (0 + O₀ (sn (dstOf m)) c) Wd)
  rw [held_split, zero_add]
  dsimp only [rest, keep]
  iintro ⟨⟨Ha, Ho⟩, ⟨HT, Hp⟩, Hs, HO⟩
  isplitl [Ha]; · iexact Ha
  isplitl [Hp]; · iexact Hp
  isplitl [Ho Hs]
  · isplitl [Ho]; · iexact Ho
    iexact Hs
  isplitl [HT]; · iexact HT
  iexact HO

/-- What a device ends with. -/
abbrev Tₙ (c : Dev nD) : sProp 𝕄 := iprop(StableHlo.held (c : Thread nD τ) S (V5 m (outs m) c) ∗ semVal (barCell c) 0 ∗ spent m c)

theorem reg_post (c : Dev nD) : (reg m H).post c ⊢ iprop(Tₙ m c ∗ ∃ W, owes (c : Thread nD τ) (0 : CellTallies nD τ sig ℕ) W) := by
  show iprop(StableHlo.held (c.tc : Thread nD τ) (Pipeline.arrRefs spec0) (V5 m (outs m) c) ∗ (∃ r, prngReg c r)
    ∗ (StableHlo.held (c.tc : Thread nD τ) others (V5 m (outs m) c) ∗ spent m c) ∗ Yk c ∗ ∃ Wd, owes (c : Thread nD τ) (0 : CellTallies nD τ sig ℕ) Wd) ⊢ _
  unfold Tₙ
  rw [held_split]
  unfold Yk
  iintro ⟨Ha, -, ⟨Ho, Hs⟩, Hb, HO⟩
  isplitr [HO]
  · isplitl [Ha Ho]
    · isplitl [Ha]; · iexact Ha
      iexact Ho
    isplitl [Hb]; · iexact Hb
    iexact Hs
  iexact HO

/-- The reduce-scatter's record, among `@main`'s items. -/
abbrev mid : Pipeline.HostSeg (Ix := ℕ) (Name := ℕ) (U := UU) (Lvl := ℕ) (pcfgs (F := F)) defs₀ 𝒱₀ L lv := reduction m (sn (dstOf m)) (keep m)

theorem mid_post (c : Dev nD) : (mid m).post c ⊢ iprop(StableHlo.held (c : Thread nD τ) S (V3 m (outs m) c) ∗ rest m 1 c) := by
  rw [V3_eq]
  exact reduce_post m (sn (dstOf m)) (keep m) c

/-- What the run leaves in the buffers of a device. -/
def Final (s : MemSt nD τ sig (Elt F)) : Prop :=
  ∀ (c : Dev nD), ∀ b ∈ S, s.mem ((c : Thread nD τ).1, b) = V5 m (outs m) c b

include H in
set_option backward.isDefEq.respectTransparency.types false in
set_option maxRecDepth 1024 in
/-- Every run ends, every buffer of `@main` holding what the host operations and the exchange give it, every semaphore at zero. -/
theorem run_all (ρ : Dev nD → PrngReg) :
    θ_run defs (onTc (τ := τ) (main (F := F))) ⟨m, fun _ => 0, ρ⟩ (fun r => Final m r.2 ∧ r.2.sem = fun _ => 0) :=
  Pipeline.θ_run_regions_kit_dev_sems (pcfgs (F := F)) adm (dats m) 0 cellOf_inj EP defs₀ 𝒱₀ L lv m ρ main
    (segs m (outs m) 𝒱₀ L lv (rest m) 0 (dats m) (mid m) (reg m H))
    (fun c Q => by
      rewrite [main_chain c, Pipeline.Seg.run_eq_chain,
        show (segs m (outs m) 𝒱₀ L lv (rest m) 0 (dats m) (mid m) (reg m H) c).map Pipeline.Seg.prog = [
          StableHlo.seq (hostOps0 c),
          StableHlo.seq hostOps0_1,
          StableHlo.reduceScatter rs0,
          StableHlo.seq hostOps1,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := dues m) (hL := L_of_ne) (G := G m) (u₀ := u₀ m)
    (hu₀ := by
      unfold u₀ G
      iintro Hu
      ihave H := (ownU_pair _ _) $$ Hu
      icases H with ⟨HP, HX⟩
      ihave HX' := (own_pair_emb embR _ _) $$ HX
      imodintro
      isplitl [HP]; · iexact HP
      rw [onFirst_all]; iexact HX')
    (T₀ := T₀ m) (Tₙ := Tₙ m)
    (hch := fun c => ⟨.rfl, .rfl, reduce_pre m (sn (dstOf m)) (keep m) c, mid_post m c, reg_pre m H c, reg_post m H c⟩)
    (hinit := init m ρ)
    (QY := fun c s => (∀ b ∈ S, s.mem ((c : Thread nD τ).1, b) = V5 m (outs m) c b) ∧ s.sem (barCell c) = 0
      ∧ ∀ x, s.sem ((c : Thread nD τ), (site (F := F)).semAt x) = 0)
    (hfin := fun c s' => by
      unfold Tₙ StableHlo.held
      iintro ⟨⟨Hh, Hb, Hs⟩, HSI⟩
      icombine HSI Hb gives %hb
      ihave %h := (SI_pointsTo_bufs_agree (qs := fun _ => fullShare) S) $$ [HSI Hh]
      · isplitl [HSI]; · iexact HSI
        iexact Hh
      unfold spent
      imod ((ReduceScatter.Dat.once (site (F := F)) (entry m)).ghostAfter_read EC c (k := 0) le_rfl s') $$ [Hs HSI] with ⟨%hz, HSI⟩
      · isplitl [Hs]; · iexact Hs
        iexact HSI
      imodintro
      isplitr; · ipureintro; exact ⟨fun b hb => h _ hb, by simpa using hb, hz⟩
      iexact HSI)
    (hQ := fun s h hs => ⟨fun c => (h c).1, sem_eq_zero hs fun c sm hsm => by
      rcases (sems_all sm).1 (fun h' => Bool.false_ne_true (hsm.symm.trans h')) with rfl | ⟨x, rfl⟩
      · exact (h c).2.1
      · exact (h c).2.2 x⟩)

include H in
/-- The same, of the arguments and the result. -/
theorem run_main (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = outF (dstOf m) (xinOf m) c) ∧ r.2.sem = fun _ => 0) :=
  (θ_run defs _ _).mono (fun r h => ⟨fun c =>
    ⟨(h.1 c _ (mem_S main_arg0 (by decide) (by decide))).trans (V5_main_arg0 m (outs m) c),
      (h.1 c _ (mem_S main_arg1 (by decide) (by decide))).trans (V5_main_arg1 m (outs m) c),
      (h.1 c _ (mem_S main_v9 (by decide) (by decide))).trans (V5_v9 m c)⟩, h.2⟩) (run_all m H ρ)

end Launch

end Cert.KernelIdeal.A2av

end
-- ==== Proof.Dest.lean ====
/- The destinations: the half of the table of destinations that a device is given, and the number of its rows that leave it, from the
   numbers of ones in the table. -/
module

public import proofs.«01_k».proof.Defs
public import proofs.«01_k».proof.Proof.Count
public import proofs.«01_k».proof.Proof.Launch
public import Idealize.ShloMosaic.Lib.Routing.Ops
public import Idealize.ShloMosaic.Lib.ReduceScatter.Sum
public import Idealize.ShloMosaic.Lib.Pipeline.Value

@[expose] public section

noncomputable section

namespace Cert.KernelIdeal.A2av

open Idealize.ShloMosaic Idealize.ShloMosaic.TcCoe Idealize.SL.Sem Idealize.ShloMosaic.ValueIdx
open Cert.KernelIdeal Cert.KernelIdeal.Gen

variable {F : FTy → Type} [FloatOps F]

/-- A table of destinations. -/
abbrev Tab : Type := IVec S1024 32

/-- Row `j` of the table goes to the second half. -/
def isOne (D : Tab) (j : ℕ) : Prop := ∃ h : j < 1024, D (ix1 ⟨j, h⟩) = 1#32

instance (D : Tab) : DecidablePred (isOne D) := fun j => by unfold isOne; infer_instance

/-- The number of ones among the table's first `n` entries. -/
abbrev ones (D : Tab) (n : ℕ) : ℕ := Nat.count (isOne D) n

/-- Every entry is a zero or a one. -/
def Binary (D : Tab) : Prop := ∀ j : Fin 1024, D (ix1 j) = 0#32 ∨ D (ix1 j) = 1#32

/-- A table of zeros and ones, as many of the one as of the other. -/
structure Balanced (D : Tab) : Prop where
  binary : Binary D
  all : ones D 1024 = 512

/-- An entry that is its own last bit is a zero or a one. -/
theorem binary_word (w : BitVec 32) (h : w &&& 1#32 = w) : w = 0#32 ∨ w = 1#32 := by
  have hn : w.toNat % 2 = w.toNat := by
    have := congrArg BitVec.toNat h
    rwa [BitVec.toNat_and, show (1#32).toNat = 1 from rfl, Nat.and_one_is_mod] at this
  have : w.toNat < 2 := by omega
  rcases (by omega : w.toNat = 0 ∨ w.toNat = 1) with h0 | h0
  · exact .inl (BitVec.eq_of_toNat_eq h0)
  · exact .inr (BitVec.eq_of_toNat_eq h0)

theorem sum_ones (D : Tab) : ∀ n, ((List.range n).map fun j => if isOne D j then 1 else 0).sum = ones D n
  | 0 => rfl
  | n + 1 => by
    rw [List.range_succ, List.map_append, List.sum_append, sum_ones D n, ones, ones, Nat.count_succ]
    simp

/-- Where every entry is a zero or a one, an entry is the number of ones at its place. -/
theorem entry_eq (D : Tab) (hD : Binary D) (j : Fin 1024) : D (ix1 j) = BitVec.ofNat 32 (if isOne D j.val then 1 else 0) := by
  have hl : isOne D j.val ↔ D (ix1 j) = 1#32 := ⟨fun ⟨_, h⟩ => h, fun h => ⟨j.isLt, h⟩⟩
  rcases hD j with h | h
  · rw [if_neg (fun hh => by rw [hl, h] at hh; exact absurd hh (by decide)), h]
  · rw [if_pos (hl.2 h), h]

/-- The sum of a table of zeros and ones. -/
theorem sum_eq (D : Tab) (hD : Binary D) (h : S1024.ReducesTo [0] S_) (hu : 0 < S_.numel) :
    Host.reduce IntOp.addi D (constantI S_ 32 0#32) h hu ix0 = BitVec.ofNat 32 (ones D 1024) :=
  (Routing.reduce_sum D (fun j => if isOne D j then 1 else 0) (entry_eq D hD) h hu).trans (by rw [sum_ones])

/-! ## A device's half -/

/-- The device's coordinate along the exchanging axis. -/
abbrev yN (d : Dev nD) : ℕ := d.val / 4 % 2

theorem yN_lt (d : Dev nD) : yN d < 2 := Nat.mod_lt _ (by decide)
theorem yW_eq : ∀ d : Dev nD, yW d = BitVec.ofNat 32 (yN d) := by decide
theorem yN_pr : ∀ d : Dev nD, yN (pr d) = 1 - yN d := by decide
theorem yBit_eq : ∀ d : Dev nD, yBit d = BitVec.ofBool (decide (yN d = 0)) := by decide

/-- `v` is the device's half of the table. -/
def IsHalf (D : Tab) (d : Dev nD) (v : Vec F S1x512 .i32) : Prop :=
  ∀ j : Fin 512, (v (ix2 0 j) : BitVec 32) = D (ix1 ⟨512 * yN d + j.val, by have := yN_lt d; omega⟩)

section Half
variable (D : Tab) (d : Dev nD) (v : Vec F S1x512 .i32)

/-- At the first device the ones leave, at the second the zeros. -/
theorem leaves_iff (hD : Binary D) (hv : IsHalf D d v) (j : ℕ) (hj : j < 512) :
    leaves d v j ↔ (isOne D (512 * yN d + j) ↔ yN d = 0) := by
  have h1 := yN_lt d
  have e : leaves d v j ↔ D (ix1 ⟨512 * yN d + j, by omega⟩) ≠ BitVec.ofNat 32 (yN d) := by
    rw [← yW_eq, ← hv ⟨j, hj⟩]
    exact ⟨fun ⟨_, h⟩ => h, fun h => ⟨hj, h⟩⟩
  have o : isOne D (512 * yN d + j) ↔ D (ix1 ⟨512 * yN d + j, by omega⟩) = 1#32 := ⟨fun ⟨_, h⟩ => h, fun h => ⟨_, h⟩⟩
  rw [e, o]
  rcases (by omega : yN d = 0 ∨ yN d = 1) with hy | hy <;> rcases hD ⟨512 * yN d + j, by omega⟩ with hw | hw <;> rw [hw, hy] <;> decide

/-- The rows that leave among the first `n`. -/
theorem before_eq (hD : Binary D) (hv : IsHalf D d v) : ∀ n, n ≤ 512 →
    before d v n = if yN d = 0 then ones D n else n - (ones D (512 + n) - ones D 512)
  | 0, _ => by simp [before, ones]
  | n + 1, hn => by
    have ih := before_eq hD hv n (by omega)
    have h1 := yN_lt d
    rw [before, Nat.count_succ, ← before, ih]
    have hl := leaves_iff D d v hD hv n (by omega)
    rcases (by omega : yN d = 0 ∨ yN d = 1) with hy | hy
    · rw [hy, Nat.mul_zero, Nat.zero_add] at hl
      rw [if_pos hy, if_pos hy, ones, ones, Nat.count_succ]
      simp only [hl, iff_true]
    · rw [hy, Nat.mul_one] at hl
      have hy' : ¬ yN d = 0 := by omega
      have hs : ones D (512 + (n + 1)) = ones D (512 + n) + if isOne D (512 + n) then 1 else 0 := Nat.count_succ _ _
      rw [if_neg hy', if_neg hy', hs]
      have hm : ones D 512 ≤ ones D (512 + n) := Nat.count_monotone _ (by omega)
      have hle : ones D (512 + n) ≤ ones D 512 + n := by
        rw [ones, Nat.count_add]; exact Nat.add_le_add_left (Nat.count_le _) _
      have hl' : leaves d v n ↔ ¬ isOne D (512 + n) := by rw [hl]; simp
      by_cases ho : isOne D (512 + n)
      · rw [if_pos ho, if_neg (by rw [hl']; exact fun h => h ho)]; omega
      · rw [if_neg ho, if_pos (hl'.2 ho)]; omega

/-- In a balanced table the first half's ones are as many as the second half's zeros. -/
theorem before_all (hD : Binary D) (hb : ones D 1024 = 512) (hv : IsHalf D d v) : before d v 512 = ones D 512 := by
  rw [before_eq D d v hD hv 512 le_rfl]
  have hle : ones D 512 ≤ 512 := Nat.count_le _
  split
  · rfl
  · show 512 - (ones D 1024 - ones D 512) = ones D 512
    omega

end Half

/-! ## The half the program takes -/

variable (m : (ℓ : Loc nD τ sig) → Buf (Elt F) ℓ)

/-- The table as a device holds it. -/
abbrev tab (c : Dev nD) : Tab := m (c.tc.loc main_arg1)

/-- The device of a pair whose copy of the table both partners take their halves of: the first along the exchanging axis. -/
def base (c : Dev nD) : Dev nD := ⟨c.val - 4 * yN c, lt_of_le_of_lt (Nat.sub_le _ _) c.isLt⟩

theorem base_pr : ∀ c, base (pr c) = base c := by decide
theorem mem_first : ∀ c : Dev nD, rs0_mem ((rs0_pos c).1, 0) = base c := by decide
theorem mem_second : ∀ c : Dev nD, yN (rs0_mem ((rs0_pos c).1, 1)) ≠ 0 := by decide
theorem yN_base : ∀ c : Dev nD, yN (base c) = 0 := by decide
theorem pos_ord : ∀ c : Dev nD, (rs0_pos c).2.val = yN c := by decide

/-- Whether a device is the first of its pair, as the program asks it. -/
theorem first_word : ∀ c : Dev nD, cmpi .eq (Host.remui (Host.divui (constantI S_ 32 (Dev.word c)) (constantI S_ 32 4#32)) (constantI S_ 32 2#32)) (constantI S_ 32 0#32) ix0
    = BitVec.ofBool (decide (yN c = 0)) := by decide

/-- What a device puts into the sum: its copy of the table if it is the first of its pair, else zeros. -/
theorem addend_eq (c : Dev nD) (j : Fin 1024) : (V2 m c main_v6 : Tab) (ix1 j) = if yN c = 0 then tab m c (ix1 j) else 0#32 := by
  unfold V2 V1
  after_results
  refine (congrArg (fun w : BitVec 1 => if w = 1#1 then tab m c (ix1 j) else 0#32) (first_word c)).trans ?_
  by_cases h : yN c = 0
  · rw [decide_eq_true h, if_pos h]; rfl
  · rw [decide_eq_false h, if_neg h]; rfl

/-- What the kernel is given is the device's half of the first partner's copy of the table. -/
theorem dst_half (c : Dev nD) : IsHalf (tab m (base c)) c (dstOf m c) := by
  intro j
  have h1 := yN_lt c
  have hj := j.isLt
  have e : (dstOf m c : Vec F S1x512 .i32) (ix2 0 j) = (site (F := F)).reducedOf (entry m) c (ix1 j) := by
    unfold dstOf
    after_results
    refine Eq.trans (b := ((site (F := F)).after₀ (entry m) c main_v7 : Vec F S512 .i32) (ix1 j)) ?_ ?_
    · exact shapeCast_apply (s := S512) (t := S1x512) _ shapeCasts_S512_S1x512 (ix2 0 j) (ix1 j)
        (by rw [Shape.rowMajor_val_one, Shape.rowMajor_val_two]; simp [ix1, ix2])
    exact congrFun ((site (F := F)).after₀_result (entry m) c) (ix1 j)
  let a (d : Dev nD) : BitVec 32 := (V2 m d main_v6 : Tab) (ix1 ⟨512 * yN c + j.val, by omega⟩)
  have s := (site (F := F)).reducedOf_graded_at (Grading.ofHom (M := BitVec 32) (fun w : BitVec 32 => w) fun _ _ => rfl) (entry m) c (ix1 j)
    (ix1 ⟨512 * yN c + j.val, by omega⟩) (fun b => by
      obtain rfl : b = (0 : Fin 1) := Subsingleton.elim (α := Fin 1) _ _
      show 512 * yN c + j.val = (if (0 : Fin 1) = 0 then (rs0_pos c).2.val * (1024 / 2) else 0) + j.val
      rw [pos_ord, if_pos rfl]; omega)
    0 a (fun _ _ => rfl)
  refine e.trans ((show _ = _ from s).trans ((Fin.sum_univ_two (M := BitVec 32) _).trans ?_))
  show (a (rs0_mem ((rs0_pos c).1, 0)) + a (rs0_mem ((rs0_pos c).1, 1)) : BitVec 32) = _
  simp only [a]
  rw [addend_eq, addend_eq, if_neg (mem_second c), mem_first, if_pos (yN_base c)]
  exact BitVec.add_zero _

end Cert.KernelIdeal.A2av
end
-- ==== Proof.Pre.lean ====
/- What the precondition says of a device's copy of the table, and that partners then send one another equally many rows. -/
module

public import proofs.«01_k».proof.Proof.Gen.Pre_balanced_Kernel
public import proofs.«01_k».proof.Proof.Dest

@[expose] public section

noncomputable section

namespace Cert.KernelIdeal.A2av

open Idealize.ShloMosaic Idealize.ShloMosaic.TcCoe Idealize.SL.Sem Idealize.ShloMosaic.ValueIdx
open Cert.KernelIdeal Cert.KernelIdeal.Gen

variable {F : FTy → Type} [FloatOps F]

theorem word_and (a b : BitVec 1) : a &&& b = 1#1 ↔ a = 1#1 ∧ b = 1#1 := by
  revert a b; decide

theorem word_bool (b : Bool) : BitVec.ofBool b = 1#1 ↔ b = true := by cases b <;> decide

theorem ofNat_inj {a b : ℕ} (ha : a ≤ 1024) (hb : b ≤ 1024) (h : BitVec.ofNat 32 a = BitVec.ofNat 32 b) : a = b := by
  have := congrArg BitVec.toNat h
  rwa [BitVec.toNat_ofNat, BitVec.toNat_ofNat, Nat.mod_eq_of_lt (by omega), Nat.mod_eq_of_lt (by omega)] at this

open Cert.Pre_balanced_Kernel in
/-- What the precondition says of a table. -/
theorem balanced_of (x : FVec F Cert.Pre_balanced_Kernel.S512x256 .f32) (D : Tab) (h : Cert.Pre_balanced_Kernel.fn (F := F) x D = fun _ => 1#1) : Balanced D := by
  have hp : ∀ j : Fin 1024, BitVec.ofBool (D (ix1 j) &&& 1#32 == D (ix1 j)) &&& BitVec.ofBool (
        Host.reduce IntOp.addi D (constantI S_ 32 0#32) Facts.reducesTo_S1024_S_d0 Facts.h_S_ ix0 == 512#32) = 1#1 := fun j => congrFun h (ix1 j)
  simp only [word_and, word_bool, beq_iff_eq] at hp
  have hB : Binary D := fun j => binary_word _ (hp j).1
  exact ⟨hB, ofNat_inj (Nat.count_le _) (by omega) ((sum_eq D hB _ _).symm.trans (hp 0).2)⟩

/-- Partners send one another equally many rows: both have halves of one copy of the table. -/
theorem sends_equal (m : (ℓ : Loc nD τ sig) → Buf (Elt F) ℓ) (E : Exact F) (hm : ∀ c, Balanced (tab m c)) (c : Dev nD) :
    nS c (dstOf m c) = nS (pr c) (dstOf m (pr c)) := by
  have hb := hm (base c)
  rw [nS_eq c _ E, nS_eq (pr c) _ E, before_all _ _ _ hb.binary hb.all (dst_half m c),
    before_all _ _ _ hb.binary hb.all (base_pr c ▸ dst_half m (pr c))]

end Cert.KernelIdeal.A2av
end
-- ==== Proof.Rank.lean ====
/- The place each row takes in the stable sort by destination, from the numbers of ones before it; that sort read. -/
module

public import proofs.«01_k».proof.Proof.Dest
public import Idealize.ShloMosaic.Lib.PlanTiles.StableSort

@[expose] public section

noncomputable section

namespace Cert.KernelIdeal.A2av

open Idealize.ShloMosaic Idealize.ShloMosaic.TcCoe Idealize.SL.Sem Idealize.ShloMosaic.ValueIdx
open Cert.KernelIdeal Cert.KernelIdeal.Gen

/-- The place row `g` is sorted to: the zeros first, each in the table's order. -/
def rank (D : Tab) (g : ℕ) : ℕ := if isOne D g then 512 + ones D g else g - ones D g

/-- A table sorted by a key has its places in the order of the key and the place. -/
theorem sorted_lex {n : ℕ} (G : Fin n → ℕ) {i j : Fin n} (h : i < j) :
    PlanTiles.Lex G (· < ·) (sortedFrom (fun a b => decide (G b < G a)) i) (sortedFrom (fun a b => decide (G b < G a)) j) := by
  have hp := PlanTiles.pairwise_stableSort_lex G (· < ·) (List.finRange n) (List.pairwise_lt_finRange n)
  exact List.pairwise_iff_get.mp hp _ _ (Fin.lt_def.2 h)

/-- A rising map of a finite range to itself moves nothing. -/
theorem strictMono_val {n : ℕ} (f : Fin n → Fin n) (hf : StrictMono f) (r : Fin n) : (f r).val = r.val := by
  rw [le_antisymm hf.apply_le hf.le_apply]

section Rank
variable (D : Tab)

theorem ones_le (n : ℕ) : ones D n ≤ n := Nat.count_le _
theorem ones_mono {a b : ℕ} (h : a ≤ b) : ones D a ≤ ones D b := Nat.count_monotone _ h
theorem ones_succ (n : ℕ) : ones D (n + 1) = ones D n + if isOne D n then 1 else 0 := Nat.count_succ _ _
/-- Zeros before a place, as ones, are no more than the places. -/
theorem ones_add {a b : ℕ} (h : a ≤ b) : ones D b ≤ ones D a + (b - a) := by
  obtain ⟨k, rfl⟩ := Nat.exists_eq_add_of_le h
  rw [ones, Nat.count_add]
  exact Nat.add_le_add_left ((Nat.count_le _).trans (by omega)) _

variable (hb : ones D 1024 = 512)
include hb

theorem rank_one {g : ℕ} (hg : isOne D g) : 512 ≤ rank D g ∧ rank D g < 1024 := by
  have hlt : g < 1024 := hg.1
  have h1 := ones_succ D g
  have h2 := ones_mono D (show g + 1 ≤ 1024 from hlt)
  rw [if_pos hg] at h1
  unfold rank
  rw [if_pos hg]
  omega

theorem rank_zero {g : ℕ} (hlt : g < 1024) (hg : ¬ isOne D g) : rank D g < 512 := by
  have h1 := ones_succ D g
  have h2 := ones_add D (show g + 1 ≤ 1024 from hlt)
  have h3 := ones_le D g
  rw [if_neg hg] at h1
  unfold rank
  rw [if_neg hg]
  omega

theorem rank_lt {g : ℕ} (hlt : g < 1024) : rank D g < 1024 := by
  by_cases hg : isOne D g
  · exact (rank_one D hb hg).2
  · have := rank_zero D hb hlt hg; omega

/-- The order of the sort: by the key, then by the place. -/
abbrev key (g : ℕ) : ℕ := if isOne D g then 0 else 1

theorem rank_mono {a b : Fin 1024} (h : PlanTiles.Lex (fun a : Fin 1024 => key D a.val) (· < ·) a b) : rank D a.val < rank D b.val := by
  have ha := a.isLt
  have hb' := b.isLt
  unfold PlanTiles.Lex key at h
  by_cases h1 : isOne D a.val <;> by_cases h2 : isOne D b.val
  · simp only [h1, h2, if_true, lt_irrefl, false_or, true_and] at h
    have e := ones_succ D a.val
    have m := ones_mono D (show a.val + 1 ≤ b.val from h)
    rw [if_pos h1] at e
    unfold rank
    rw [if_pos h1, if_pos h2]
    omega
  · simp [h1, h2] at h
  · have := rank_zero D hb ha h1
    have := (rank_one D hb h2).1
    omega
  · simp only [h1, h2, if_false, lt_irrefl, false_or, true_and] at h
    have e := ones_succ D a.val
    have m := ones_add D (show a.val + 1 ≤ b.val from h)
    have l := ones_le D a.val
    have h' : a.val < b.val := h
    rw [if_neg h1] at e
    unfold rank
    rw [if_neg h1, if_neg h2]
    omega

/-- The row sorted to place `r`. -/
def source (r : Fin 1024) : Fin 1024 := sortedFrom (fun a b : Fin 1024 => decide (key D b.val < key D a.val)) r

omit hb in
theorem source_lex {i j : Fin 1024} (h : i < j) : PlanTiles.Lex (fun a : Fin 1024 => key D a.val) (· < ·) (source D i) (source D j) :=
  sorted_lex (fun a : Fin 1024 => key D a.val) h

/-- The row sorted to place `r` has rank `r`. -/
theorem rank_source (r : Fin 1024) : rank D (source D r).val = r.val := by
  have hs := @source_lex D
  generalize source D = s at hs ⊢
  exact strictMono_val (fun r => ⟨rank D (s r).val, rank_lt D hb (s r).isLt⟩) (fun _ _ h => Fin.lt_def.2 (rank_mono D hb (hs h))) r

/-- Rows of one rank are one row. -/
theorem rank_inj {a b : Fin 1024} (h : rank D a.val = rank D b.val) : a = b := by
  have hsur : Function.Surjective (source D) := sortedFrom_surjective _
  obtain ⟨i, rfl⟩ := hsur a
  obtain ⟨j, rfl⟩ := hsur b
  rw [rank_source D hb, rank_source D hb] at h
  rw [Fin.ext h]

end Rank

end Cert.KernelIdeal.A2av
end
-- ==== Proof.Value.lean ====
/- The kernel's result over the reals: positions as ranks, each chunk's product as a selection of rows, and the row of the
   table each row of the result is. -/
module

public import proofs.«01_k».proof.Proof.Rank
public import Idealize.ShloMosaic.Lib.MatmulPlain
public import Idealize.ShloMosaic.Lib.ValueLayout
public import Idealize.ShloMosaic.Lib.IdealHost

@[expose] public section

noncomputable section

namespace Cert.KernelIdeal.A2av

open Idealize.ShloMosaic Idealize.ShloMosaic.TcCoe Idealize.SL.Sem Idealize.ShloMosaic.ValueIdx
open Cert.KernelIdeal Cert.KernelIdeal.Gen

/-- An integer among the extended reals. -/
abbrev zat (z : ℤ) : EReal := ((z : ℝ) : EReal)

theorem zat_inj {a b : ℤ} : zat a = zat b ↔ a = b := by
  rw [EReal.coe_eq_coe_iff, Int.cast_inj]
theorem zat_add (a b : ℤ) : zat a + zat b = zat (a + b) := by
  rw [zat, zat, zat, ← EReal.coe_add, Int.cast_add]
theorem zat_sub (a b : ℤ) : zat a - zat b = zat (a - b) := by
  rw [zat, zat, zat, ← EReal.coe_sub, Int.cast_sub]
theorem fnat_zat (n : ℕ) (h : n ≤ 2048) : (fnat n : Ideal .f32) = zat n := by
  rw [fnat_ideal n h, zat, Int.cast_natCast]

theorem one_zat : (Scalar.ofBits .f32 0x3F800000#32 : Ideal .f32) = zat 1 := by
  show Ideal.ofBits .f32 0x3F800000#32 = _
  rw [Ideal.ofBits_one_f32, zat, Int.cast_one, EReal.coe_one]
theorem zero_zat : (Scalar.ofBits .f32 0x00000000#32 : Ideal .f32) = zat 0 := by
  rw [exact_ideal.zero, fnat_zat 0 (by omega), Nat.cast_zero]
theorem minus_zat : (Scalar.ofBits .f32 0xBF800000#32 : Ideal .f32) = zat (-1) := by
  show Ideal.ofBits .f32 0xBF800000#32 = _
  rw [zat, Int.cast_neg, Int.cast_one]
  simp [Ideal.ofBits, Ideal.ieee, -EReal.coe_mul, -EReal.coe_neg]; norm_num

theorem oeq_zat (a b : ℤ) : FloatOps.cmpf (F := Ideal) (φ := .f32) .oeq (zat a) (zat b) = BitVec.ofBool (decide (a = b)) := by
  show BitVec.ofBool (decide (zat a = zat b)) = _
  simp only [zat_inj]

section Positions
variable (d : Dev nD) (v : Vec Ideal S1x512 .i32)

theorem count_word : (Scalar.sitofp .f32 (count (sums (F := Ideal) d v)) : Ideal .f32) = zat (before d v 512) := by
  rw [show count (sums (F := Ideal) d v) = _ from nS_eq d v exact_ideal]
  exact fnat_zat _ ((before_le d v 512).trans (by omega))

theorem rest_word : (Scalar.sitofp .f32 (Scalar.subi 512#32 (count (sums (F := Ideal) d v))) : Ideal .f32) = zat (512 - before d v 512 : ℕ) := by
  rw [show count (sums (F := Ideal) d v) = _ from nS_eq d v exact_ideal]
  have h := before_le d v 512
  rw [show Scalar.subi 512#32 (BitVec.ofNat 32 (before d v 512)) = BitVec.ofNat 32 (512 - before d v 512) from
    (by
      show BitVec.ofNat 32 512 - _ = _
      apply BitVec.eq_of_toNat_eq
      rw [BitVec.toNat_sub, BitVec.toNat_ofNat, BitVec.toNat_ofNat, BitVec.toNat_ofNat]
      omega)]
  exact fnat_zat _ (by omega)

theorem pick_word {α : Type} (a b : α) : Scalar.select (yBit d) a b = if yN d = 0 then a else b := by
  rw [yBit_eq]
  by_cases h : yN d = 0
  · rw [decide_eq_true h, if_pos h]; rfl
  · rw [decide_eq_false h, if_neg h]; rfl

/-- The places of a vector counted. -/
theorem iota_word {m n : ℕ} (h : (⟨2, ![m, n]⟩ : Shape).Iotas .tc 32 [0]) (i : Fin m) (t : Fin n) : iota .tc (⟨2, ![m, n]⟩ : Shape) 32 [0] h (ix2 i t) = BitVec.ofNat 32 i.val := by
  show BitVec.ofNat 32 (0 * m + i.val) = _
  rw [Nat.zero_mul, Nat.zero_add]
theorem cols_word (t : Fin 512) : cols (ix2 0 t) = BitVec.ofNat 32 t.val := by
  show BitVec.ofNat 32 (0 * 512 + t.val) = _
  rw [Nat.zero_mul, Nat.zero_add]

variable (t : Fin 512)

theorem sums_zat : sums (F := Ideal) d v (ix2 0 t) = zat (before d v (t.val + 1)) :=
  (sums_at d v exact_ideal (ix2 0 t)).trans (fnat_zat (before d v (t.val + 1)) ((before_le d v _).trans (by have := t.isLt; omega)))

theorem sent_zat : sent (F := Ideal) d v (ix2 0 t) = zat (if leaves d v t.val then 1 else 0) := by
  refine (sent_at d v (ix2 0 t)).trans ?_
  show fnat (if leaves d v t.val then 1 else 0) = _
  split
  · exact fnat_zat 1 (by omega)
  · exact fnat_zat 0 (by omega)

/-- The position of a row that leaves. -/
theorem posS_at : posS (F := Ideal) d v (ix2 0 t) =
    zat (if leaves d v t.val then before d v t.val + (if yN d = 0 then 0 else (512 - before d v 512 : ℕ)) else -1) := by
  show Scalar.select (FloatOps.cmpf .oeq (sent (F := Ideal) d v (ix2 0 t)) (Scalar.ofBits .f32 0x3F800000#32))
    (FloatOps.addf (FloatOps.subf (sums d v (ix2 0 t)) (Scalar.ofBits .f32 0x3F800000#32))
      (Scalar.select (yBit d) (Scalar.ofBits .f32 0x00000000#32) (Scalar.sitofp .f32 (Scalar.subi 512#32 (count (sums (F := Ideal) d v))))))
    (Scalar.ofBits .f32 0xBF800000#32) = _
  rw [sent_zat, one_zat, oeq_zat, sums_zat, zero_zat, rest_word, minus_zat, pick_word]
  have e : before d v (t.val + 1) = before d v t.val + if leaves d v t.val then 1 else 0 := Nat.count_succ _ _
  by_cases h : leaves d v t.val
  · rw [if_pos h] at e
    rw [if_pos h, if_pos h, e]
    show zat _ - zat 1 + _ = _
    rw [zat_sub, ← apply_ite zat, zat_add]
    congr 1
    split <;> push_cast <;> ring
  · rw [if_neg h, if_neg h]
    rfl

/-- The position of a row that stays. -/
theorem posK_at : posK (F := Ideal) d v (ix2 0 t) =
    zat (if leaves d v t.val then -1 else t.val - before d v t.val + (if yN d = 0 then 0 else (before d v 512 : ℤ))) := by
  show Scalar.select (FloatOps.cmpf .oeq (sent (F := Ideal) d v (ix2 0 t)) (Scalar.ofBits .f32 0x00000000#32))
    (FloatOps.addf (FloatOps.subf (FloatOps.sitofp .f32 (cols (ix2 0 t))) (sums d v (ix2 0 t)))
      (Scalar.select (yBit d) (Scalar.ofBits .f32 0x00000000#32) (Scalar.sitofp .f32 (count (sums (F := Ideal) d v)))))
    (Scalar.ofBits .f32 0xBF800000#32) = _
  rw [cols_word, sent_zat, zero_zat, oeq_zat, sums_zat, count_word, minus_zat, pick_word,
    show (FloatOps.sitofp .f32 (BitVec.ofNat 32 t.val) : Ideal .f32) = zat t.val from fnat_zat _ (by have := t.isLt; omega)]
  have e : before d v (t.val + 1) = before d v t.val + if leaves d v t.val then 1 else 0 := Nat.count_succ _ _
  by_cases h : leaves d v t.val
  · rw [if_pos h, if_pos h]
    rfl
  · rw [if_neg h] at e
    rw [if_neg h, if_neg h, e]
    show zat _ - zat _ + _ = _
    rw [zat_sub, ← apply_ite zat, zat_add]
    rfl

end Positions

/-! ## A chunk's product -/

section Product
variable (pos : FVec Ideal S1x512 .f32) (x : Vec Ideal S512x256 .f32) (k : Fin 16) (j : Fin 32) (col : Fin 256)

theorem prod_apply : prod pos x k (ix2 j col) =
    ∑ t : Fin 512, (if pos (ix2 0 t) = zat (32 * k.val + j.val : ℕ) then (1 : EReal) else 0) * x (ix2 t col) := by
  have h := Ideal.matmul_plain_apply (M := 32) (K := 512) (N := 256) (φ₁ := .f32) (φ₂ := .f32) none
    (sitofp .f32 (extui 32 (cmpf .oeq (sitofp .f32 (addi (iota .tc S32x512 32 [0] iota_S32x512_d0_w32) (broadcast S32x512 (w32 k.val))) : FVec Ideal S32x512 .f32)
      (broadcastTo S32x512 pos broadcasts_S1x512_S32x512)) natLt_1_32))
    (shapeCast S512x256 x shapeCasts_S512x256_S512x256) (constant S32x256 .f32 0x00000000#32) j col
  refine Eq.trans h ?_
  rw [show (constant S32x256 .f32 0x00000000#32 : FVec Ideal S32x256 .f32) (ix2 j col) = 0 from
    zero_zat.trans (by rw [zat, Int.cast_zero, EReal.coe_zero]), zero_add, shapeCast_self]
  refine Finset.sum_congr rfl fun t _ => congrArg (· * _) ?_
  have hk := k.isLt
  have hj := j.isLt
  have hb : broadcastTo S32x512 pos broadcasts_S1x512_S32x512 (ix2 j t) = pos (ix2 0 t) := broadcastTo_1b_ab_apply pos _ j t
  have hw : (iota .tc S32x512 32 [0] iota_S32x512_d0_w32 (ix2 j t) : BitVec 32) + w32 k.val = BitVec.ofNat 32 (32 * k.val + j.val) := by
    rw [iota_word, w32, ← BitVec.ofNat_add, Nat.add_comm]
  show (Scalar.sitofp .f32 ((FloatOps.cmpf .oeq (Scalar.sitofp .f32 ((iota .tc S32x512 32 [0] iota_S32x512_d0_w32 (ix2 j t) : BitVec 32) + w32 k.val) : Ideal .f32)
    (broadcastTo S32x512 pos broadcasts_S1x512_S32x512 (ix2 j t))).setWidth 32) : Ideal .f32) = _
  rw [hb, hw, show (Scalar.sitofp .f32 (BitVec.ofNat 32 (32 * k.val + j.val)) : Ideal .f32) = zat (32 * k.val + j.val : ℕ) from fnat_zat _ (by omega)]
  show (Scalar.sitofp .f32 ((BitVec.ofBool (decide (zat (32 * k.val + j.val : ℕ) = pos (ix2 0 t)))).setWidth 32) : Ideal .f32) = _
  by_cases e : pos (ix2 0 t) = zat (32 * k.val + j.val : ℕ)
  · rw [if_pos e, decide_eq_true e.symm]
    exact (fnat_zat 1 (by omega)).trans (by rw [zat]; norm_num)
  · rw [if_neg e, decide_eq_false (Ne.symm e)]
    exact (fnat_zat 0 (by omega)).trans (by rw [zat]; norm_num)

/-- Where one row alone has the place's position, the product is that row. -/
theorem prod_hit (t : Fin 512) (ht : ∀ s : Fin 512, pos (ix2 0 s) = zat (32 * k.val + j.val : ℕ) ↔ s = t) : prod pos x k (ix2 j col) = x (ix2 t col) := by
  rw [prod_apply, Finset.sum_eq_single t]
  · rw [if_pos ((ht t).2 rfl), one_mul]
  · intro s _ hs
    rw [if_neg (fun h => hs ((ht s).1 h)), zero_mul]
  · exact fun h => absurd (Finset.mem_univ t) h

/-- Where no row has it, the product is zero. -/
theorem prod_miss (ht : ∀ s : Fin 512, ¬ pos (ix2 0 s) = zat (32 * k.val + j.val : ℕ)) : prod pos x k (ix2 j col) = 0 := by
  rw [prod_apply]
  refine Finset.sum_eq_zero fun s _ => ?_
  rw [if_neg (ht s), zero_mul]

end Product

/-! ## The chunks moved are those with a row in them -/

section Moved
variable (d : Dev nD) (v : Vec Ideal S1x512 .i32) (k : Fin 16) (j : Fin 32) (t : Fin 512)

theorem nS_toInt : (nS (F := Ideal) d v).toInt = before d v 512 := by
  have h := before_le d v 512
  rw [nS_eq d v exact_ideal, BitVec.toInt_eq_toNat_cond, BitVec.toNat_ofNat, Nat.mod_eq_of_lt (by omega), if_pos (by omega)]

theorem nK_toInt : (nK (F := Ideal) d v).toInt = 512 - before d v 512 := by
  have h := before_le d v 512
  have e : nK (F := Ideal) d v = BitVec.ofNat 32 (512 - before d v 512) := by
    unfold nK
    rw [nS_eq d v exact_ideal]
    show BitVec.ofNat 32 512 - _ = _
    apply BitVec.eq_of_toNat_eq
    rw [BitVec.toNat_sub, BitVec.toNat_ofNat, BitVec.toNat_ofNat, BitVec.toNat_ofNat]
    omega
  rw [e, BitVec.toInt_eq_toNat_cond, BitVec.toNat_ofNat, Nat.mod_eq_of_lt (by omega), if_pos (by omega)]
  omega

/-- A chunk with a row that stays is kept. -/
theorem kB_of (h : posK (F := Ideal) d v (ix2 0 t) = zat (32 * k.val + j.val : ℕ)) : on (kB d v k) := by
  rw [posK_at, zat_inj] at h
  have hk := k.isLt
  have hj := j.isLt
  have ht := t.isLt
  have h0 := w32_toInt (n := k.val) (by omega)
  have h1 := w32_toInt (n := k.val + 1) (by omega)
  have hl : ¬ leaves d v t.val := fun hl => by rw [if_pos hl] at h; omega
  have e : before d v (t.val + 1) = before d v t.val + if leaves d v t.val then 1 else 0 := Nat.count_succ _ _
  have m : before d v 512 ≤ before d v (t.val + 1) + (512 - (t.val + 1)) := by
    conv_lhs => rw [show 512 = (t.val + 1) + (512 - (t.val + 1)) by omega, before, Nat.count_add]
    exact Nat.add_le_add_left (Nat.count_le _) _
  have m' := before_le d v t.val
  rw [if_neg hl] at h e
  rw [on_iff, kB, kBit, pick_word]
  by_cases hy : yN d = 0
  · rw [if_pos hy] at h ⊢
    rw [sgt_iff, nK_toInt, h0]
    omega
  · rw [if_neg hy] at h ⊢
    rw [slt_iff, nS_toInt, h1]
    omega

/-- A chunk with a row that leaves is sent. -/
theorem sB_of (h : posS (F := Ideal) d v (ix2 0 t) = zat (32 * k.val + j.val : ℕ)) : on (sB d v k) := by
  rw [posS_at, zat_inj] at h
  have hk := k.isLt
  have hj := j.isLt
  have ht := t.isLt
  have h0 := w32_toInt (n := k.val) (by omega)
  have h1 := w32_toInt (n := k.val + 1) (by omega)
  have hl : leaves d v t.val := by
    by_contra hl
    rw [if_neg hl] at h
    omega
  have e : before d v (t.val + 1) = before d v t.val + if leaves d v t.val then 1 else 0 := Nat.count_succ _ _
  have m : before d v (t.val + 1) ≤ before d v 512 := Nat.count_monotone _ (by omega)
  have m' := before_le d v 512
  rw [if_pos hl] at h e
  rw [on_iff, sB, sBit, pick_word]
  by_cases hy : yN d = 0
  · rw [if_pos hy] at h ⊢
    rw [sgt_iff, nS_toInt, h0]
    omega
  · rw [if_neg hy] at h ⊢
    rw [slt_iff, nK_toInt, h1]
    omega

end Moved

/-! ## Positions as ranks, and the result -/

section Result
variable (D : Tab) (hB : Balanced D) (d : Dev nD) (v : Vec Ideal S1x512 .i32) (hv : IsHalf D d v)
include hB hv

theorem posK_rank (t : Fin 512) (r : ℕ) (hr : r < 512) :
    posK (F := Ideal) d v (ix2 0 t) = zat r ↔ rank D (512 * yN d + t.val) = 512 * yN d + r := by
  have ht := t.isLt
  have hy := yN_lt d
  have hl := leaves_iff D d v hB.binary hv t.val ht
  have hb := before_eq D d v hB.binary hv t.val ht.le
  have ha := before_all D d v hB.binary hB.all hv
  have h1 := ones_le D t.val
  have h2 := ones_add D (show 512 ≤ 512 + t.val by omega)
  have h3 := ones_mono D (show 512 ≤ 512 + t.val by omega)
  have h4 := rank_one D hB.all (g := 512 * yN d + t.val)
  have h5 := rank_zero D hB.all (g := 512 * yN d + t.val) (by omega)
  rw [posK_at, zat_inj]
  by_cases h : leaves d v t.val
  · rw [if_pos h]
    rcases (by omega : yN d = 0 ∨ yN d = 1) with y | y
    · have := (h4 ((hl.1 h).2 y)).1
      omega
    · have := h5 (fun o => by have := (hl.1 h).1 o; omega)
      omega
  · rw [if_neg h]
    unfold rank
    rcases (by omega : yN d = 0 ∨ yN d = 1) with y | y
    · have o : ¬ isOne D (512 * yN d + t.val) := fun o => h (hl.2 ⟨fun _ => y, fun _ => o⟩)
      rw [if_neg o, if_pos y]
      rw [if_pos y] at hb
      rw [y, Nat.mul_zero, Nat.zero_add]
      omega
    · have o : isOne D (512 * yN d + t.val) := by
        by_contra o
        exact h (hl.2 ⟨fun o' => absurd o' o, fun y' => by omega⟩)
      rw [if_pos o, if_neg (by omega)]
      rw [if_neg (by omega)] at hb
      rw [y, Nat.mul_one]
      omega

theorem posS_rank (t : Fin 512) (r : ℕ) (hr : r < 512) :
    posS (F := Ideal) d v (ix2 0 t) = zat r ↔ rank D (512 * yN d + t.val) = 512 * yN (pr d) + r := by
  have ht := t.isLt
  have hy := yN_lt d
  have hl := leaves_iff D d v hB.binary hv t.val ht
  have hb := before_eq D d v hB.binary hv t.val ht.le
  have ha := before_all D d v hB.binary hB.all hv
  have h1 := ones_le D t.val
  have h2 := ones_add D (show 512 ≤ 512 + t.val by omega)
  have h3 := ones_mono D (show 512 ≤ 512 + t.val by omega)
  have h6 := ones_le D 512
  have h4 := rank_one D hB.all (g := 512 * yN d + t.val)
  have h5 := rank_zero D hB.all (g := 512 * yN d + t.val) (by omega)
  rw [posS_at, zat_inj, yN_pr]
  by_cases h : leaves d v t.val
  · rw [if_pos h]
    unfold rank
    rcases (by omega : yN d = 0 ∨ yN d = 1) with y | y
    · rw [if_pos ((hl.1 h).2 y), if_pos y]
      rw [if_pos y] at hb
      rw [y, Nat.mul_zero, Nat.zero_add]
      omega
    · have y' : ¬ yN d = 0 := by omega
      have o : ¬ isOne D (512 * yN d + t.val) := fun o => y' ((hl.1 h).1 o)
      rw [if_neg y', if_neg o]
      rw [if_neg y'] at hb
      rw [y, Nat.mul_one]
      omega
  · rw [if_neg h]
    rcases (by omega : yN d = 0 ∨ yN d = 1) with y | y
    · have := h5 (fun o => h (hl.2 ⟨fun _ => y, fun _ => o⟩))
      omega
    · have := (h4 (by
        by_contra o
        exact h (hl.2 ⟨fun o' => absurd o' o, fun y' => by omega⟩))).1
      omega

end Result

section Out
variable (D : Tab) (hB : Balanced D) (dst : Dev nD → Vec Ideal S1x512 .i32) (xin : Dev nD → Vec Ideal S512x256 .f32)
  (hv : ∀ d, IsHalf D d (dst d)) (c : Dev nD) (k : Fin 16) (j : Fin 32) (col : Fin 256)
include hB hv

/-- The place in the sorted table of the result's row. -/
abbrev place (c : Dev nD) (r : ℕ) (hr : r < 512) : Fin 1024 := ⟨512 * yN c + r, by have := yN_lt c; omega⟩

/-- A row sorted here from the device's own half. -/
theorem out_own (t : Fin 512) (hs : (source D (place c (32 * k.val + j.val) (by omega))).val = 512 * yN c + t.val) :
    outVec dst xin c k (ix2 j col) = xin c (ix2 t col) := by
  have hr := rank_source D hB.all (place c (32 * k.val + j.val) (by omega))
  have hc := yN_lt c
  have hK : ∀ s : Fin 512, posK (F := Ideal) c (dst c) (ix2 0 s) = zat (32 * k.val + j.val : ℕ) ↔ s = t := fun s => by
    rw [posK_rank D hB c (dst c) (hv c) s _ (by omega)]
    constructor
    · intro h
      have := congrArg Fin.val (rank_inj D hB.all (a := ⟨512 * yN c + s.val, by omega⟩) (b := source D (place c (32 * k.val + j.val) (by omega))) (h.trans hr.symm))
      have : 512 * yN c + s.val = 512 * yN c + t.val := this.trans hs
      exact Fin.ext (by omega)
    · rintro rfl
      rw [← hs, hr]
  have hS : ∀ s : Fin 512, ¬ posS (F := Ideal) (pr c) (dst (pr c)) (ix2 0 s) = zat (32 * k.val + j.val : ℕ) := fun s => by
    rw [posS_rank D hB (pr c) (dst (pr c)) (hv _) s _ (by omega), pr_pr]
    intro h
    have hp := yN_pr c
    have := congrArg Fin.val (rank_inj D hB.all (a := ⟨512 * yN (pr c) + s.val, by omega⟩) (b := source D (place c (32 * k.val + j.val) (by omega))) (h.trans hr.symm))
    have : 512 * yN (pr c) + s.val = 512 * yN c + t.val := this.trans hs
    omega
  have e1 : prod (posK c (dst c)) (xin c) k (ix2 j col) = xin c (ix2 t col) := prod_hit _ _ _ _ _ t hK
  have e2 : pay dst xin (pr c) k (ix2 j col) = 0 := prod_miss _ _ _ _ _ hS
  have hk : on (kB c (dst c) k) := kB_of c (dst c) k j t ((hK t).2 rfl)
  unfold outVec
  by_cases hn : sn dst (pr c) (up k) = true
  · rw [if_pos hn, if_pos hk]
    show prod (posK c (dst c)) (xin c) k (ix2 j col) + pay dst xin (pr c) k (ix2 j col) = _
    rw [e1, e2, add_zero]
  · rw [if_neg hn]
    exact e1

/-- A row sorted here from the other device's half. -/
theorem out_other (t : Fin 512) (hs : (source D (place c (32 * k.val + j.val) (by omega))).val = 512 * yN (pr c) + t.val) :
    outVec dst xin c k (ix2 j col) = xin (pr c) (ix2 t col) := by
  have hr := rank_source D hB.all (place c (32 * k.val + j.val) (by omega))
  have hc := yN_lt c
  have hp := yN_pr c
  have hK : ∀ s : Fin 512, ¬ posK (F := Ideal) c (dst c) (ix2 0 s) = zat (32 * k.val + j.val : ℕ) := fun s => by
    rw [posK_rank D hB c (dst c) (hv c) s _ (by omega)]
    intro h
    have := congrArg Fin.val (rank_inj D hB.all (a := ⟨512 * yN c + s.val, by omega⟩) (b := source D (place c (32 * k.val + j.val) (by omega))) (h.trans hr.symm))
    have : 512 * yN c + s.val = 512 * yN (pr c) + t.val := this.trans hs
    omega
  have hS : ∀ s : Fin 512, posS (F := Ideal) (pr c) (dst (pr c)) (ix2 0 s) = zat (32 * k.val + j.val : ℕ) ↔ s = t := fun s => by
    rw [posS_rank D hB (pr c) (dst (pr c)) (hv _) s _ (by omega), pr_pr]
    constructor
    · intro h
      have := congrArg Fin.val (rank_inj D hB.all (a := ⟨512 * yN (pr c) + s.val, by omega⟩) (b := source D (place c (32 * k.val + j.val) (by omega))) (h.trans hr.symm))
      have : 512 * yN (pr c) + s.val = 512 * yN (pr c) + t.val := this.trans hs
      exact Fin.ext (by omega)
    · rintro rfl
      rw [← hs, hr]
  have e1 : prod (posK c (dst c)) (xin c) k (ix2 j col) = 0 := prod_miss _ _ _ _ _ hK
  have e2 : pay dst xin (pr c) k (ix2 j col) = xin (pr c) (ix2 t col) := prod_hit _ _ _ _ _ t hS
  have hs' : sn dst (pr c) (up k) = true := (sn_up dst (pr c) k).2 (sB_of (pr c) (dst (pr c)) k j t ((hS t).2 rfl))
  unfold outVec
  rw [if_pos hs']
  split
  · show prod (posK c (dst c)) (xin c) k (ix2 j col) + pay dst xin (pr c) k (ix2 j col) = _
    rw [e1, e2, zero_add]
  · exact e2

/-- A device's result: its half of the table's rows as the sort orders them. -/
theorem outF_at (X : (⟨2, ![1024, 256]⟩ : Shape).Idx → EReal)
    (hx : ∀ (d : Dev nD) (t : Fin 512) (col : Fin 256), xin d (ix2 t col) = X (ix2 (place d t.val t.isLt) col))
    (r : Fin 512) : outF dst xin c (ix2 r col) = X (ix2 (source D (place c r.val r.isLt)) col) := by
  have hr := r.isLt
  have hc := yN_lt c
  have hp := yN_pr c
  have hsl := (source D (place c r.val r.isLt)).isLt
  have e : 32 * (r.val / 32) + r.val % 32 = r.val := Nat.div_add_mod _ _
  have hpl : source D (place c (32 * (r.val / 32) + r.val % 32) (by omega)) = source D (place c r.val r.isLt) := by
    congr 2
  show outVec dst xin c ⟨r.val / 32, by omega⟩ (ix2 (⟨r.val % 32, by omega⟩ : Fin 32) col) = _
  rcases (by omega : (source D (place c r.val r.isLt)).val / 512 = yN c ∨ (source D (place c r.val r.isLt)).val / 512 = yN (pr c)) with h | h
  · have hs : (source D (place c r.val r.isLt)).val = 512 * yN c + (source D (place c r.val r.isLt)).val % 512 := by omega
    rw [out_own D hB dst xin hv c ⟨r.val / 32, by omega⟩ ⟨r.val % 32, by omega⟩ col ⟨(source D (place c r.val r.isLt)).val % 512, by omega⟩
      ((congrArg Fin.val hpl).trans hs), hx]
    exact congrArg (fun g => X (ix2 g col)) (Fin.ext hs.symm)
  · have hs : (source D (place c r.val r.isLt)).val = 512 * yN (pr c) + (source D (place c r.val r.isLt)).val % 512 := by omega
    rw [out_other D hB dst xin hv c ⟨r.val / 32, by omega⟩ ⟨r.val % 32, by omega⟩ col ⟨(source D (place c r.val r.isLt)).val % 512, by omega⟩
      ((congrArg Fin.val hpl).trans hs), hx]
    exact congrArg (fun g => X (ix2 g col)) (Fin.ext hs.symm)

end Out

end Cert.KernelIdeal.A2av
end
-- ==== Proof.Ref.lean ====
/- The reference's result: row `r` is the row the sort puts there. A device's block of a table, entry by entry. -/
module

public import proofs.«01_k».proof.Proof.Value
public import proofs.«01_k».proof.ReferenceIdeal
public import proofs.«01_k».proof.Proof.Gen.ReferenceIdeal
public import Idealize.ShloMosaic.Lib.DynamicIndex
public import Idealize.ShloMosaic.Lib.Layout

@[expose] public section

noncomputable section

namespace Cert.KernelIdeal.A2av

open Idealize.ShloMosaic Idealize.ShloMosaic.ValueIdx
open Cert.ReferenceIdeal Cert.ReferenceIdeal.Gen

/-- The reference's comparison of two entries, by their keys. -/
theorem less_eq (D : Tab) (hD : Binary D) (a b : Fin 1024) :
    (IntOp.cmpi .slt (D (ix1 a)) (D (ix1 b)) == 1#1) = decide (key D b.val < key D a.val) := by
  have h : ∀ j : Fin 1024, isOne D j.val ↔ D (ix1 j) = 1#32 := fun j => ⟨fun ⟨_, h⟩ => h, fun h => ⟨j.isLt, h⟩⟩
  unfold key
  simp only [h]
  rcases hD a with ha | ha <;> rcases hD b with hb | hb <;> rw [ha, hb] <;> decide

/-- The place the reference's sort reads row `r` from. -/
theorem order_at (D : Tab) (hD : Binary D) (r : Fin 1024) :
    (Host.sort2 S1024 0 comparator_i32_i32_d0 D (iotaInDim S1024 32 0)).2 (ix1 r) = BitVec.ofNat 32 (source D r).val := by
  have hd : 0 < S1024.rank := Nat.zero_lt_one
  have e : ∀ (j : S1024.Idx) (a : Fin 1024), j.along (⟨0, hd⟩ : Fin S1024.rank) a = ix1 a := fun j a =>
    (Shape.Idx.along_rank1 j a).trans (Routing.ofFin_eq_ix1 a)
  have hb : (fun a b : Fin 1024 => comparator_i32_i32_d0 (D ((ix1 r : S1024.Idx).along ⟨0, hd⟩ a), iotaInDim S1024 32 0 ((ix1 r : S1024.Idx).along ⟨0, hd⟩ a))
      (D ((ix1 r : S1024.Idx).along ⟨0, hd⟩ b), iotaInDim S1024 32 0 ((ix1 r : S1024.Idx).along ⟨0, hd⟩ b)) == 1#1)
      = fun a b => decide (key D b.val < key D a.val) := by
    funext a b
    show (IntOp.cmpi .slt (D ((ix1 r : S1024.Idx).along ⟨0, hd⟩ a)) (D ((ix1 r : S1024.Idx).along ⟨0, hd⟩ b)) == 1#1) = _
    rw [e, e, less_eq D hD]
  have h : (Host.sort2 S1024 0 comparator_i32_i32_d0 D (iotaInDim S1024 32 0)).2 (ix1 r)
      = iotaInDim S1024 32 0 ((ix1 r : S1024.Idx).along ⟨0, hd⟩ (sortedFrom (n := 1024) (fun a b : Fin 1024 =>
        comparator_i32_i32_d0 (D ((ix1 r : S1024.Idx).along ⟨0, hd⟩ a), iotaInDim S1024 32 0 ((ix1 r : S1024.Idx).along ⟨0, hd⟩ a))
          (D ((ix1 r : S1024.Idx).along ⟨0, hd⟩ b), iotaInDim S1024 32 0 ((ix1 r : S1024.Idx).along ⟨0, hd⟩ b)) == 1#1) r)) := by
    unfold Host.sort2
    rw [dif_pos hd]
    rfl
  rw [h, e, hb]
  rfl

variable (X : S1024x256.Idx → EReal) (D : Tab)

/-- The reference's result. -/
abbrev refOut : S1024x256.Idx → EReal :=
  Host.gather gather_S1024x256_S1024x1_S1024x256_1_0_n_n_0_1_1256 X
    (broadcastInDim S1024x1 ![0] bcast_S1024_S1024x1_0
      (select (cmpi .slt ((Host.sort2 S1024 0 comparator_i32_i32_d0 D (iotaInDim S1024 32 0)).2) (broadcastInDim S1024 ![] bcast_S_S1024 (constantI S_ 32 0#32)))
        (addi ((Host.sort2 S1024 0 comparator_i32_i32_d0 D (iotaInDim S1024 32 0)).2) (broadcastInDim S1024 ![] bcast_S_S1024 (constantI S_ 32 1024#32)))
        ((Host.sort2 S1024 0 comparator_i32_i32_d0 D (iotaInDim S1024 32 0)).2)))

theorem refOut_at (hD : Binary D) (r : Fin 1024) (col : Fin 256) : refOut X D (ix2 r col) = X (ix2 (source D r) col) := by
  unfold refOut
  refine Routing.gather_row _ rfl rfl rfl rfl rfl X _ r col (source D r) ?_ (by norm_num)
  have ho := order_at D hD r
  generalize (Host.sort2 S1024 0 comparator_i32_i32_d0 D (iotaInDim S1024 32 0)).2 = o at ho ⊢
  have hi : broadcastInDim S1024x1 ![0] bcast_S1024_S1024x1_0
      (select (cmpi .slt o (broadcastInDim S1024 ![] bcast_S_S1024 (constantI S_ 32 0#32))) (addi o (broadcastInDim S1024 ![] bcast_S_S1024 (constantI S_ 32 1024#32))) o)
        (ix2 r (0 : Fin 1))
      = select (cmpi .slt o (constantI S1024 32 0#32)) (addi o (constantI S1024 32 1024#32)) o (ix1 r) := by
    unfold broadcastInDim
    refine (congrArg (select (cmpi .slt o (constantI S1024 32 0#32)) (addi o (constantI S1024 32 1024#32)) o) (funext fun a => ?_ : _ = (ix1 r : S1024.Idx)))
    match a with
    | ⟨0, _⟩ => rfl
  have hs := (source D r).isLt
  rw [hi, select_slt_zero_of_nonneg o _ _ (ix1 r) (by rw [ho, toInt_ofNat_of_lt (by omega)]; omega), ho]

/-- A device's block of the rows. -/
theorem block_at (V : S1024x256.Idx → EReal) (c : Dev Cert.KernelIdeal.nD) (t : Fin 512) (col : Fin 256) :
    (Layout.blockN ⟨2, ![512, 256]⟩ ⟨2, ![1024, 256]⟩ (Layout.meshBlock [2, 2, 4] ![[1], []] c) V) (ix2 t col) = V (ix2 (place c t.val t.isLt) col) := by
  rw [Layout.blockN_apply]
  refine congrArg V (funext fun a => Fin.ext ?_)
  match a with
  | ⟨0, _⟩ =>
    show Layout.meshLin [2, 2, 4] c.val [1] * 512 + t.val = 512 * yN c + t.val
    rw [show Layout.meshLin [2, 2, 4] c.val [1] = yN c from (by decide : ∀ c : Fin 16, Layout.meshLin [2, 2, 4] c.val [1] = c.val / 4 % 2) c, Nat.mul_comm]
  | ⟨1, _⟩ =>
    show Layout.meshLin [2, 2, 4] c.val [] * 256 + col.val = col.val
    show 0 * 256 + col.val = col.val
    omega

/-- The kernel's result on a device whose blocks are a table's: its block of the reference's result. -/
theorem block_of (hB : Balanced D) (m : (ℓ : Loc Cert.KernelIdeal.nD Cert.KernelIdeal.τ Cert.KernelIdeal.sig) → Buf (Elt Ideal) ℓ)
    (c : Dev Cert.KernelIdeal.nD) (hD : ∀ d, tab m d = D)
    (hX : ∀ d : Dev Cert.KernelIdeal.nD, m ((d.tc : Thread Cert.KernelIdeal.nD Cert.KernelIdeal.τ).loc Cert.KernelIdeal.main_arg0)
      = Layout.blockN ⟨2, ![512, 256]⟩ ⟨2, ![1024, 256]⟩ (Layout.meshBlock [2, 2, 4] ![[1], []] d) X) :
    outF (dstOf m) (xinOf m) c = Layout.blockN ⟨2, ![512, 256]⟩ ⟨2, ![1024, 256]⟩ (Layout.meshBlock [2, 2, 4] ![[1], []] c) (refOut X D) := by
  have hv : ∀ d, IsHalf D d (dstOf m d) := fun d => hD (base d) ▸ dst_half m d
  have hx : ∀ (d : Dev Cert.KernelIdeal.nD) (t : Fin 512) (col : Fin 256), xinOf m d (ix2 t col) = X (ix2 (place d t.val t.isLt) col) := fun d t col => by
    rw [show xinOf m d = _ from hX d]
    exact block_at X d t col
  funext i
  obtain ⟨r, col, rfl⟩ : ∃ (r : Fin 512) (col : Fin 256), i = ix2 r col := ⟨i 0, i 1, eq_ix2 i⟩
  rw [outF_at D hB (dstOf m) (xinOf m) hv c col X hx r]
  exact ((block_at (refOut X D) c r col).trans (refOut_at X D hB.binary (place c r.val r.isLt) col)).symm

end Cert.KernelIdeal.A2av
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import proofs.«01_k».proof.Proof.Same
public import proofs.«01_k».proof.Proof.Pre
public import proofs.«01_k».proof.Proof.Ref
public import Idealize.ShloMosaic.Lib.Quiescent

@[expose] public section

noncomputable section

namespace Cert.Proof

open Idealize.ShloMosaic Idealize.SL.Sem

theorem frame_kernel : Cert.quiescent_Kernel := fun m ρ hm => by
  rw [defs_eq]
  exact (θ_run Cert.KernelIdeal.defs _ _).mono (fun r h => ⟨fun c => ⟨(h.1 c).1, (h.1 c).2.1⟩, h.2⟩)
    (Cert.KernelIdeal.A2av.run_main (F := Bits) m
      (Cert.KernelIdeal.A2av.sends_equal m Cert.KernelIdeal.A2av.exact_bits fun c => Cert.KernelIdeal.A2av.balanced_of _ _ (hm c)) ρ)

theorem frame_kernelIdeal : Cert.quiescent_KernelIdeal := fun m ρ hm =>
  (θ_run Cert.KernelIdeal.defs _ _).mono (fun _ h => ⟨fun c => ⟨(h.1 c).1, (h.1 c).2.1⟩, h.2⟩)
    (Cert.KernelIdeal.A2av.run_main (F := Ideal) m
      (Cert.KernelIdeal.A2av.sends_equal m Cert.KernelIdeal.A2av.exact_ideal fun c => Cert.KernelIdeal.A2av.balanced_of _ _ (hm c)) ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's, over the reals. -/
theorem value : Cert.algebraic_KernelIdeal_ReferenceIdeal := fun m ρ m' ρ' hm ha => by
  have hH := fun c => Cert.KernelIdeal.A2av.balanced_of _ _ (hm c)
  have hD := fun c : Dev Cert.KernelIdeal.nD => (ha c).2
  have hB : Cert.KernelIdeal.A2av.Balanced (m' (((0 : Dev Cert.ReferenceIdeal.nD).tc : Thread Cert.ReferenceIdeal.nD Cert.ReferenceIdeal.τ).loc Cert.ReferenceIdeal.main_arg1)) := by
    rw [← hD 0]
    exact hH 0
  refine ⟨Cert.KernelIdeal.A2av.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans (Cert.KernelIdeal.A2av.block_of _ _ hB m c (fun d => hD d) fun d => (ha d).1), (h.1 c).1, (h.1 c).2.1⟩)
      (Cert.KernelIdeal.A2av.run_main (F := Ideal) m (Cert.KernelIdeal.A2av.sends_equal m Cert.KernelIdeal.A2av.exact_ideal hH) ρ)
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, Cert.Pre_balanced_Kernel.Gen.facts, Cert.Pre_balanced_ReferenceIdeal.Gen.facts,
    frame_kernel, frame_kernelIdeal, frame_reference, fun m ρ _ => frame_reference m ρ trivial, trivial, value⟩

end Cert.Proof

end
